-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "low" .f32 0xFF61B1E6#32 ⊥
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S1024x8 : Shape := ⟨2, ![1024, 8]⟩
abbrev S8 : Shape := ⟨1, ![8]⟩
abbrev S8x1024x64 : Shape := ⟨3, ![8, 1024, 64]⟩
abbrev S8x64x1024 : Shape := ⟨3, ![8, 64, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8x1024x64 : S_.BroadcastsInDim S8x1024x64 (![] : Fin 0 → Fin S8x1024x64.rank)
  reducesTo_S8x1024x64_S_d0_1_2 : S8x1024x64.ReducesTo [0, 1, 2] S_

variable [Facts]

def fn {F : FTy → Type} [FloatOps F] (main_arg0 : FVec F S4x2048x1024 .f32) (main_arg1 : FVec F S1024x8 .f32) (main_arg2 : FVec F S8 .f32) (main_arg3 : FVec F S8x1024x64 .f32) (main_arg4 : FVec F S8x1024x64 .f32) (main_arg5 : FVec F S8x1024x64 .f32) (main_arg6 : FVec F S8x64x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8x1024x64 .f32 := Host.absf main_arg3
  let main_cst_0 : FVec F S_ .f32 := constant S_ .f32 0x7F800000#32
  let main_v5 : FVec F S8x1024x64 .f32 := broadcastInDim S8x1024x64 ![] bcast_S_S8x1024x64 main_cst_0
  let main_v6 : IVec S8x1024x64 1 := cmpf .olt main_v4 main_v5
  let main_c_1 : IVec S_ 1 := constantI S_ 1 1#1
  let main_v7 : IVec S_ 1 := (fun x v => Host.reduce IntOp.andi x v reducesTo_S8x1024x64_S_d0_1_2 h_S_) main_v6 main_c_1
  let main_v8 : IVec S_ 1 := andi main_v3 main_v7
  let main_v9 : FVec F S8x1024x64 .f32 := Host.absf main_arg4
  let main_cst_2 : FVec F S_ .f32 := constant S_ .f32 0x7F800000#32
  let main_v10 : FVec F S8x1024x64 .f32 := broadcastInDim S8x1024x64 ![] bcast_S_S8x1024x64 main_cst_2
  let main_v11 : IVec S8x1024x64 1 := cmpf .olt main_v9 main_v10
  let main_c_3 : IVec S_ 1 := constantI S_ 1 1#1
  let main_v12 : IVec S_ 1 := (fun x v => Host.reduce IntOp.andi x v reducesTo_S8x1024x64_S_d0_1_2 h_S_) main_v11 main_c_3
  let main_v13 : IVec S_ 1 := andi main_v8 main_v12
  main_v13
-- ==== Kernel.lean ====
abbrev S4x2048x1024 : Shape := ⟨3, ![4, 2048, 1024]⟩
abbrev S1024x8 : Shape := ⟨2, ![1024, 8]⟩
abbrev S8 : Shape := ⟨1, ![8]⟩
abbrev S8x1024x64 : Shape := ⟨3, ![8, 1024, 64]⟩
abbrev S8x64x1024 : Shape := ⟨3, ![8, 64, 1024]⟩
abbrev S8x1536 : Shape := ⟨2, ![8, 1536]⟩
abbrev S8192x1024 : Shape := ⟨2, ![8192, 1024]⟩
abbrev S1024x8x64 : Shape := ⟨3, ![1024, 8, 64]⟩
abbrev S1024x512 : Shape := ⟨2, ![1024, 512]⟩
abbrev S1024x1536 : Shape := ⟨2, ![1024, 1536]⟩
abbrev S512x1024 : Shape := ⟨2, ![512, 1024]⟩
abbrev S1x8 : Shape := ⟨2, ![1, 8]⟩
abbrev S8x512 : Shape := ⟨2, ![8, 512]⟩
abbrev S8192x64 : Shape := ⟨2, ![8192, 64]⟩
abbrev S8192x8 : Shape := ⟨2, ![8192, 8]⟩
abbrev S512x64 : Shape := ⟨2, ![512, 64]⟩
abbrev S512x8 : Shape := ⟨2, ![512, 8]⟩
abbrev S512 : Shape := ⟨1, ![512]⟩
abbrev S512x1 : Shape := ⟨2, ![512, 1]⟩
abbrev S1x512 : Shape := ⟨2, ![1, 512]⟩
abbrev S512x1536 : Shape := ⟨2, ![512, 1536]⟩
abbrev S4x2048x64 : Shape := ⟨3, ![4, 2048, 64]⟩
abbrev S4x2048x8 : Shape := ⟨3, ![4, 2048, 8]⟩
abbrev S1x512x64 : Shape := ⟨3, ![1, 512, 64]⟩
abbrev S1x2048x64 : Shape := ⟨3, ![1, 2048, 64]⟩
abbrev S1x512x8 : Shape := ⟨3, ![1, 512, 8]⟩
abbrev S1x512x1024 : Shape := ⟨3, ![1, 512, 1024]⟩
abbrev S1x1024x64 : Shape := ⟨3, ![1, 1024, 64]⟩
abbrev S1024x64 : Shape := ⟨2, ![1024, 64]⟩
abbrev S512x512 : Shape := ⟨2, ![512, 512]⟩

abbrev nBuf : Space → Nat
  | .hbm => 30
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S1024x8, .f32⟩
  | .hbm, ⟨2, _⟩ => ⟨S8, .f32⟩
  | .hbm, ⟨3, _⟩ => ⟨S8x1024x64, .f32⟩
  | .hbm, ⟨4, _⟩ => ⟨S8x1024x64, .f32⟩
  | .hbm, ⟨5, _⟩ => ⟨S8x1024x64, .f32⟩
  | .hbm, ⟨6, _⟩ => ⟨S8x64x1024, .f32⟩
  | .hbm, ⟨7, _⟩ => ⟨S8x1536, .f32⟩
  | .hbm, ⟨8, _⟩ => ⟨S8192x1024, .f32⟩
  | .hbm, ⟨9, _⟩ => ⟨S1024x8x64, .f32⟩
  | .hbm, ⟨10, _⟩ => ⟨S1024x512, .f32⟩
  | .hbm, ⟨11, _⟩ => ⟨S1024x8x64, .f32⟩
  | .hbm, ⟨12, _⟩ => ⟨S1024x512, .f32⟩
  | .hbm, ⟨13, _⟩ => ⟨S1024x8x64, .f32⟩
  | .hbm, ⟨14, _⟩ => ⟨S1024x512, .f32⟩
  | .hbm, ⟨15, _⟩ => ⟨S1024x1536, .f32⟩
  | .hbm, ⟨16, _⟩ => ⟨S1024x1536, .bf16⟩
  | .hbm, ⟨17, _⟩ => ⟨S512x1024, .f32⟩
  | .hbm, ⟨18, _⟩ => ⟨S512x1024, .bf16⟩
  | .hbm, ⟨19, _⟩ => ⟨S1x8, .f32⟩
  | .hbm, ⟨20, _⟩ => ⟨S8x512, .f32⟩
  | .hbm, ⟨21, _⟩ => ⟨S8192x64, .bf16⟩
  | .hbm, ⟨22, _⟩ => ⟨S8192x64, .bf16⟩
  | .hbm, ⟨23, _⟩ => ⟨S8192x64, .bf16⟩
  | .hbm, ⟨24, _⟩ => ⟨S8192x8, .f32⟩
  | .hbm, ⟨25, _⟩ => ⟨S4x2048x64, .bf16⟩
  | .hbm, ⟨26, _⟩ => ⟨S4x2048x64, .bf16⟩
  | .hbm, ⟨27, _⟩ => ⟨S4x2048x64, .bf16⟩
  | .hbm, ⟨28, _⟩ => ⟨S4x2048x8, .f32⟩
  | .hbm, ⟨29, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x8, .f32⟩
  | .local _ .vmem, ⟨3, _⟩ => ⟨S1x8, .f32⟩
  | .local _ .vmem, ⟨4, _⟩ => ⟨S1024x1536, .bf16⟩
  | .local _ .vmem, ⟨5, _⟩ => ⟨S8x1536, .f32⟩
  | .local _ .vmem, ⟨6, _⟩ => ⟨S512x64, .bf16⟩
  | .local _ .vmem, ⟨7, _⟩ => ⟨S512x64, .bf16⟩
  | .local _ .vmem, ⟨8, _⟩ => ⟨S512x64, .bf16⟩
  | .local _ .vmem, ⟨9, _⟩ => ⟨S512x64, .bf16⟩
  | .local _ .vmem, ⟨10, _⟩ => ⟨S512x64, .bf16⟩
  | .local _ .vmem, ⟨11, _⟩ => ⟨S512x64, .bf16⟩
  | .local _ .vmem, ⟨12, _⟩ => ⟨S512x8, .f32⟩
  | .local _ .vmem, ⟨13, _⟩ => ⟨S512x8, .f32⟩
  | .local _ .vmem, ⟨14, _⟩ => ⟨S1x512x64, .bf16⟩
  | .local _ .vmem, ⟨15, _⟩ => ⟨S1x512x64, .bf16⟩
  | .local _ .vmem, ⟨16, _⟩ => ⟨S1x2048x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x512x8, .f32⟩
  | .local _ .vmem, ⟨21, _⟩ => ⟨S1x512x8, .f32⟩
  | .local _ .vmem, ⟨22, _⟩ => ⟨S512x1024, .bf16⟩
  | .local _ .vmem, ⟨23, _⟩ => ⟨S8x512, .f32⟩
  | .local _ .vmem, ⟨24, _⟩ => ⟨S1x512x1024, .f32⟩
  | .local _ .vmem, ⟨25, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![4, 4], ![false, false]⟩

@[reducible] def k1_t1_loop (i : grid1.Coords) : Scf.Loop 32 :=
  let c0_i32_10 : BitVec 32 := 0#32
  let arg1 : BitVec 32 := BitVec.ofNat 32 (i 1).val
  let c512_i32_4 : BitVec 32 := 512#32
  let v10 : BitVec 32 := Scalar.muli arg1 c512_i32_4
  let c0_i32 : BitVec 32 := 0#32
  let v12 : BitVec 1 := Scalar.cmpi .sgt v10 c0_i32
  let v13 : BitVec 32 := Scalar.extui v12
  let c0_i32_5 : BitVec 32 := 0#32
  let v14 : BitVec 1 := Scalar.cmpi .slt v10 c0_i32_5
  let v15 : BitVec 32 := Scalar.extui v14
  let v16 : BitVec 32 := Scalar.subi v13 v15
  let c1024_i32 : BitVec 32 := 1024#32
  let c0_i32_6 : BitVec 32 := 0#32
  let v17 : BitVec 1 := Scalar.cmpi .sgt c1024_i32 c0_i32_6
  let v18 : BitVec 32 := Scalar.extui v17
  let c0_i32_7 : BitVec 32 := 0#32
  let v19 : BitVec 1 := Scalar.cmpi .slt c1024_i32 c0_i32_7
  let v20 : BitVec 32 := Scalar.extui v19
  let v21 : BitVec 32 := Scalar.subi v18 v20
  let v22 : BitVec 1 := Scalar.cmpi .ne v16 v21
  let v23 : BitVec 32 := Scalar.remsi v10 c1024_i32
  let c0_i32_8 : BitVec 32 := 0#32
  let v24 : BitVec 1 := Scalar.cmpi .ne v23 c0_i32_8
  let v25 : BitVec 1 := Scalar.andi v22 v24
  let v11 : BitVec 32 := Scalar.divsi v10 c1024_i32
  let c1_i32 : BitVec 32 := 1#32
  let v26 : BitVec 32 := Scalar.subi v11 c1_i32
  let v27 : BitVec 32 := Scalar.select v25 v26 v11
  let c1_i32_9 : BitVec 32 := 1#32
  let v28 : BitVec 32 := Scalar.addi v27 c1_i32_9
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_12 : BitVec 32 := 1#32
  ⟨c0_i32_10, v33, c1_i32_12⟩
def k1_off1 (i : grid1.Coords) (k1_t1 : Fin (k1_t1_loop i).trips) : Fin 3 → Nat :=
  let c0_27 : Index := 0#32
  let c0_i32_10 : BitVec 32 := 0#32
  let c1_i32_12 : BitVec 32 := 1#32
  let arg9 : BitVec 32 := Scf.iv c0_i32_10 c1_i32_12 k1_t1
  let c1024_i32_26 : BitVec 32 := 1024#32
  let v52 : BitVec 32 := Scalar.muli arg9 c1024_i32_26
  let v53 : Index := Scalar.indexCast v52
  let c0_28 : Index := 0#32
  ![0, v53.toNat, 0]
@[reducible] def k1_t2_loop (i : grid1.Coords) : Scf.Loop 32 :=
  let c0_i32_10 : BitVec 32 := 0#32
  let arg1 : BitVec 32 := BitVec.ofNat 32 (i 1).val
  let c512_i32_4 : BitVec 32 := 512#32
  let v10 : BitVec 32 := Scalar.muli arg1 c512_i32_4
  let c0_i32 : BitVec 32 := 0#32
  let v12 : BitVec 1 := Scalar.cmpi .sgt v10 c0_i32
  let v13 : BitVec 32 := Scalar.extui v12
  let c0_i32_5 : BitVec 32 := 0#32
  let v14 : BitVec 1 := Scalar.cmpi .slt v10 c0_i32_5
  let v15 : BitVec 32 := Scalar.extui v14
  let v16 : BitVec 32 := Scalar.subi v13 v15
  let c1024_i32 : BitVec 32 := 1024#32
  let c0_i32_6 : BitVec 32 := 0#32
  let v17 : BitVec 1 := Scalar.cmpi .sgt c1024_i32 c0_i32_6
  let v18 : BitVec 32 := Scalar.extui v17
  let c0_i32_7 : BitVec 32 := 0#32
  let v19 : BitVec 1 := Scalar.cmpi .slt c1024_i32 c0_i32_7
  let v20 : BitVec 32 := Scalar.extui v19
  let v21 : BitVec 32 := Scalar.subi v18 v20
  let v22 : BitVec 1 := Scalar.cmpi .ne v16 v21
  let v23 : BitVec 32 := Scalar.remsi v10 c1024_i32
  let c0_i32_8 : BitVec 32 := 0#32
  let v24 : BitVec 1 := Scalar.cmpi .ne v23 c0_i32_8
  let v25 : BitVec 1 := Scalar.andi v22 v24
  let v11 : BitVec 32 := Scalar.divsi v10 c1024_i32
  let c1_i32 : BitVec 32 := 1#32
  let v26 : BitVec 32 := Scalar.subi v11 c1_i32
  let v27 : BitVec 32 := Scalar.select v25 v26 v11
  let c1_i32_9 : BitVec 32 := 1#32
  let v28 : BitVec 32 := Scalar.addi v27 c1_i32_9
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let v30 : BitVec 32 := Scalar.addi c0_i32_10 v29
  let c1_i32_13 : BitVec 32 := 1#32
  ⟨v33, v30, c1_i32_13⟩
def k1_off2 (i : grid1.Coords) (k1_t2 : Fin (k1_t2_loop i).trips) : Fin 3 → Nat :=
  let c0_27 : Index := 0#32
  let c0_i32_10 : BitVec 32 := 0#32
  let arg1 : BitVec 32 := BitVec.ofNat 32 (i 1).val
  let c512_i32_4 : BitVec 32 := 512#32
  let v10 : BitVec 32 := Scalar.muli arg1 c512_i32_4
  let c0_i32 : BitVec 32 := 0#32
  let v12 : BitVec 1 := Scalar.cmpi .sgt v10 c0_i32
  let v13 : BitVec 32 := Scalar.extui v12
  let c0_i32_5 : BitVec 32 := 0#32
  let v14 : BitVec 1 := Scalar.cmpi .slt v10 c0_i32_5
  let v15 : BitVec 32 := Scalar.extui v14
  let v16 : BitVec 32 := Scalar.subi v13 v15
  let c1024_i32 : BitVec 32 := 1024#32
  let c0_i32_6 : BitVec 32 := 0#32
  let v17 : BitVec 1 := Scalar.cmpi .sgt c1024_i32 c0_i32_6
  let v18 : BitVec 32 := Scalar.extui v17
  let c0_i32_7 : BitVec 32 := 0#32
  let v19 : BitVec 1 := Scalar.cmpi .slt c1024_i32 c0_i32_7
  let v20 : BitVec 32 := Scalar.extui v19
  let v21 : BitVec 32 := Scalar.subi v18 v20
  let v22 : BitVec 1 := Scalar.cmpi .ne v16 v21
  let v23 : BitVec 32 := Scalar.remsi v10 c1024_i32
  let c0_i32_8 : BitVec 32 := 0#32
  let v24 : BitVec 1 := Scalar.cmpi .ne v23 c0_i32_8
  let v25 : BitVec 1 := Scalar.andi v22 v24
  let v11 : BitVec 32 := Scalar.divsi v10 c1024_i32
  let c1_i32 : BitVec 32 := 1#32
  let v26 : BitVec 32 := Scalar.subi v11 c1_i32
  let v27 : BitVec 32 := Scalar.select v25 v26 v11
  let c1_i32_9 : BitVec 32 := 1#32
  let v28 : BitVec 32 := Scalar.addi v27 c1_i32_9
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg9 : BitVec 32 := Scf.iv v33 c1_i32_13 k1_t2
  let c1024_i32_26 : BitVec 32 := 1024#32
  let v52 : BitVec 32 := Scalar.muli arg9 c1024_i32_26
  let v53 : Index := Scalar.indexCast v52
  let c0_28 : Index := 0#32
  ![0, v53.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S512x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "low" => some ⊥
  | "mask" => some ⊥
  | _ => none
-- ==== ReferenceIdeal.lean ====
abbrev S4x2048x1024 : Shape := ⟨3, ![4, 2048, 1024]⟩
abbrev S1024x8 : Shape := ⟨2, ![1024, 8]⟩
abbrev S8 : Shape := ⟨1, ![8]⟩
abbrev S8x1024x64 : Shape := ⟨3, ![8, 1024, 64]⟩
abbrev S8x64x1024 : Shape := ⟨3, ![8, 64, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x2 : Shape := ⟨2, ![8192, 2]⟩
abbrev S8192x2x1 : Shape := ⟨3, ![8192, 2, 1]⟩
abbrev S1x1x8 : Shape := ⟨3, ![1, 1, 8]⟩
abbrev S8192x2x8 : Shape := ⟨3, ![8192, 2, 8]⟩
abbrev S8x64x8192 : Shape := ⟨3, ![8, 64, 8192]⟩
abbrev S8192x64 : Shape := ⟨2, ![8192, 64]⟩
abbrev S4x2048x64 : Shape := ⟨3, ![4, 2048, 64]⟩
abbrev S4x2048x2048 : Shape := ⟨3, ![4, 2048, 2048]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩
abbrev S8192x8x1 : Shape := ⟨3, ![8192, 8, 1]⟩
abbrev S8192x1x64 : Shape := ⟨3, ![8192, 1, 64]⟩
abbrev S8192x8x64 : Shape := ⟨3, ![8192, 8, 64]⟩

abbrev nBuf : Space → Nat
  | .hbm => 139
  | .vmem => 0
  | .smem => 0
  | _ => 0

abbrev hbmTy0_0 (i : Nat) : BufTy := match i % 128 with
  | 0 => ⟨S4x2048x1024, .f32⟩
  | 1 => ⟨S1024x8, .f32⟩
  | 2 => ⟨S8, .f32⟩
  | 3 => ⟨S8x1024x64, .f32⟩
  | 4 => ⟨S8x1024x64, .f32⟩
  | 5 => ⟨S8x1024x64, .f32⟩
  | 6 => ⟨S8x64x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1024, .f32⟩
  | 17 => ⟨S8192x1024, .f32⟩
  | 18 => ⟨S1024x8, .f32⟩
  | 19 => ⟨S_, .f32⟩
  | 20 => ⟨S8, .f32⟩
  | 21 => ⟨S1x8, .f32⟩
  | 22 => ⟨S1x8, .f32⟩
  | 23 => ⟨S_, .f32⟩
  | 24 => ⟨S1x8, .f32⟩
  | 25 => ⟨S1x8, .f32⟩
  | 26 => ⟨S1024x8, .f32⟩
  | 27 => ⟨S1024x8, .f32⟩
  | 28 => ⟨S8192x8, .f32⟩
  | 29 => ⟨S8, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S1x8, .f32⟩
  | 38 => ⟨S8192x8, .f32⟩
  | 39 => ⟨S8192x8, .f32⟩
  | 40 => ⟨S_, .f32⟩
  | 41 => ⟨S8192x8, .f32⟩
  | 42 => ⟨S8192x8, .f32⟩
  | 43 => ⟨S_, .f32⟩
  | 44 => ⟨S8192x8, .f32⟩
  | 45 => ⟨S8192x8, .i1⟩
  | 46 => ⟨S8192x8, .f32⟩
  | 47 => ⟨S_, .f32⟩
  | 48 => ⟨S8192, .f32⟩
  | 49 => ⟨S_, .f32⟩
  | 50 => ⟨S8192, .f32⟩
  | 51 => ⟨S8192, .i1⟩
  | 52 => ⟨S8192x2, .f32⟩
  | 53 => ⟨S8192x2, .i32⟩
  | 54 => ⟨S8192x2x1, .i32⟩
  | 55 => ⟨S1x1x8, .i32⟩
  | 56 => ⟨S8192x2x8, .i32⟩
  | 57 => ⟨S8192x2x8, .i32⟩
  | 58 => ⟨S8192x2x8, .i1⟩
  | 59 => ⟨S8192x2x8, .f32⟩
  | 60 => ⟨S_, .f32⟩
  | 61 => ⟨S8192x8, .f32⟩
  | 62 => ⟨S8192x1, .i1⟩
  | 63 => ⟨S8192x8, .i1⟩
  | 64 => ⟨S8192x8, .f32⟩
  | 65 => ⟨S_, .f32⟩
  | 66 => ⟨S8192x8, .f32⟩
  | 67 => ⟨S8192x8, .i1⟩
  | 68 => ⟨S_, .f32⟩
  | 69 => ⟨S8192x8, .f32⟩
  | 70 => ⟨S8192x8, .f32⟩
  | 71 => ⟨S_, .f32⟩
  | 72 => ⟨S8192, .f32⟩
  | 73 => ⟨S_, .f32⟩
  | 74 => ⟨S8192, .f32⟩
  | 75 => ⟨S8192, .f32⟩
  | 76 => ⟨S8192x1, .f32⟩
  | 77 => ⟨S8192x8, .f32⟩
  | 78 => ⟨S8192x8, .f32⟩
  | 79 => ⟨S8192x8, .f32⟩
  | 80 => ⟨S_, .f32⟩
  | 81 => ⟨S8192, .f32⟩
  | 82 => ⟨S8192x1, .f32⟩
  | 83 => ⟨S8192x8, .f32⟩
  | 84 => ⟨S8192x8, .f32⟩
  | 85 => ⟨S8192x8, .f32⟩
  | 86 => ⟨S8x64x8192, .f32⟩
  | 87 => ⟨S8192x64, .f32⟩
  | 88 => ⟨S8x64x8192, .f32⟩
  | 89 => ⟨S8192x64, .f32⟩
  | 90 => ⟨S8x64x8192, .f32⟩
  | 91 => ⟨S8192x64, .f32⟩
  | 92 => ⟨S4x2048x64, .f32⟩
  | 93 => ⟨S4x2048x64, .f32⟩
  | 94 => ⟨S4x2048x64, .f32⟩
  | 95 => ⟨S4x2048x2048, .f32⟩
  | 96 => ⟨S_, .f32⟩
  | 97 => ⟨S4x2048x2048, .f32⟩
  | 98 => ⟨S4x2048x2048, .f32⟩
  | 99 => ⟨S_, .i1⟩
  | 100 => ⟨S2048x2048, .i1⟩
  | 101 => ⟨S2048x2048, .i32⟩
  | 102 => ⟨S_, .i32⟩
  | 103 => ⟨S2048x2048, .i32⟩
  | 104 => ⟨S2048x2048, .i32⟩
  | 105 => ⟨S2048x2048, .i32⟩
  | 106 => ⟨S2048x2048, .i1⟩
  | 107 => ⟨S_, .i1⟩
  | 108 => ⟨S2048x2048, .i1⟩
  | 109 => ⟨S2048x2048, .i1⟩
  | 110 => ⟨S1x2048x2048, .i1⟩
  | 111 => ⟨S_, .f32⟩
  | 112 => ⟨S_, .f32⟩
  | 113 => ⟨S4x2048x2048, .i1⟩
  | 114 => ⟨S4x2048x2048, .f32⟩
  | 115 => ⟨S4x2048x2048, .f32⟩
  | 116 => ⟨S_, .f32⟩
  | 117 => ⟨S4x2048, .f32⟩
  | 118 => ⟨S_, .f32⟩
  | 119 => ⟨S4x2048, .f32⟩
  | 120 => ⟨S4x2048, .f32⟩
  | 121 => ⟨S4x2048x1, .f32⟩
  | 122 => ⟨S4x2048x2048, .f32⟩
  | 123 => ⟨S4x2048x2048, .f32⟩
  | 124 => ⟨S4x2048x2048, .f32⟩
  | 125 => ⟨S_, .f32⟩
  | 126 => ⟨S4x2048, .f32⟩
  | 127 => ⟨S4x2048x1, .f32⟩
  | _ => ⟨S4x2048x1024, .f32⟩

abbrev hbmTy0_1 (i : Nat) : BufTy := match i % 128 with
  | 0 => ⟨S4x2048x2048, .f32⟩
  | 1 => ⟨S4x2048x2048, .f32⟩
  | 2 => ⟨S4x2048x64, .f32⟩
  | 3 => ⟨S8192x64, .f32⟩
  | 4 => ⟨S8192x8x1, .f32⟩
  | 5 => ⟨S8192x1x64, .f32⟩
  | 6 => ⟨S8192x8x64, .f32⟩
  | 7 => ⟨S8192x8x64, .f32⟩
  | 8 => ⟨S8192x8x64, .f32⟩
  | 9 => ⟨S8192x1024, .f32⟩
  | 10 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call2_cst : Ref sig .tc := ⟨.hbm, 40, rfl⟩
abbrev main_call2_v0 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_values : Ref sig .tc := ⟨.hbm, 52, rfl⟩
abbrev main_indices : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v28 : Ref sig .tc := ⟨.hbm, 59, rfl⟩
abbrev main_cst_6 : Ref sig .tc := ⟨.hbm, 60, rfl⟩
abbrev main_v29 : Ref sig .tc := ⟨.hbm, 61, rfl⟩
abbrev main_v30 : Ref sig .tc := ⟨.hbm, 62, rfl⟩
abbrev main_call4_v0 : Ref sig .tc := ⟨.hbm, 63, rfl⟩
abbrev main_v31 : Ref sig .tc := ⟨.hbm, 64, rfl⟩
abbrev main_cst_7 : Ref sig .tc := ⟨.hbm, 65, rfl⟩
abbrev main_v32 : Ref sig .tc := ⟨.hbm, 66, rfl⟩
abbrev main_v33 : Ref sig .tc := ⟨.hbm, 67, rfl⟩
abbrev main_cst_8 : Ref sig .tc := ⟨.hbm, 68, rfl⟩
abbrev main_call5_v0 : Ref sig .tc := ⟨.hbm, 69, rfl⟩
abbrev main_v34 : Ref sig .tc := ⟨.hbm, 70, rfl⟩
abbrev main_cst_9 : Ref sig .tc := ⟨.hbm, 71, rfl⟩
abbrev main_v35 : Ref sig .tc := ⟨.hbm, 72, rfl⟩
abbrev main_cst_10 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_11 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_v58 : Ref sig .tc := ⟨.hbm, 98, rfl⟩
abbrev main_c : Ref sig .tc := ⟨.hbm, 99, rfl⟩
abbrev main_v59 : Ref sig .tc := ⟨.hbm, 100, rfl⟩
abbrev main_call6_v0 : Ref sig .tc := ⟨.hbm, 101, rfl⟩
abbrev main_call6_c : Ref sig .tc := ⟨.hbm, 102, rfl⟩
abbrev main_call6_v1 : Ref sig .tc := ⟨.hbm, 103, rfl⟩
abbrev main_call6_v2 : Ref sig .tc := ⟨.hbm, 104, rfl⟩
abbrev main_call6_v3 : Ref sig .tc := ⟨.hbm, 105, rfl⟩
abbrev main_call6_v4 : Ref sig .tc := ⟨.hbm, 106, rfl⟩
abbrev main_call6_c_0 : Ref sig .tc := ⟨.hbm, 107, rfl⟩
abbrev main_call6_v5 : Ref sig .tc := ⟨.hbm, 108, rfl⟩
abbrev main_v60 : Ref sig .tc := ⟨.hbm, 109, rfl⟩
abbrev main_v61 : Ref sig .tc := ⟨.hbm, 110, rfl⟩
abbrev main_cst_13 : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_v62 : Ref sig .tc := ⟨.hbm, 115, rfl⟩
abbrev main_cst_14 : Ref sig .tc := ⟨.hbm, 116, rfl⟩
abbrev main_v63 : Ref sig .tc := ⟨.hbm, 117, rfl⟩
abbrev main_cst_15 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_16 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩

abbrev nD : Nat := 1
abbrev τ : Topo := Topo.v7x

variable {F : FTy → Type} [FloatOps F]
-- ==== Proof.KRun.lean ====
/- The idealized kernel's run: where every buffer of interest ends, the result array being what the second call leaves in it. -/
module

public import proofs.«01_k».proof.Proof.Gen.KernelIdeal.Frame

@[expose] public section

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with the result array at the contents that the second call's write-backs give it, and
    with the arguments as they were. -/
theorem run : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Val

end
-- ==== Proof.OneHot.lean ====
/- The constant operand of the two calls, read: row `e` holds a one in the 64 columns of every group that is its own modulo eight. -/
module
public import proofs.«01_k».proof.KernelIdeal
@[expose] public section
set_option maxRecDepth 16384

noncomputable section
namespace Cert.KernelIdeal.Val
open Idealize.ShloMosaic Cert.KernelIdeal

/-- The table by pieces of 128 entries, each compared. -/
theorem lit_piece : ∀ a : Fin 96, ∀ b : Fin 128, lit0t (a.val * 128 + b.val)
    = if ((a.val * 128 + b.val) % 1536 / 64) % 8 = (a.val * 128 + b.val) / 1536 then 0x3F800000#32 else 0#32 := by
  decide +kernel

/-- An entry is the word of one where the column's group is the row, the word of zero elsewhere. -/
theorem lit_at (i : Fin 12288) : lit0 i = if (i.val % 1536 / 64) % 8 = i.val / 1536 then 0x3F800000#32 else 0#32 := by
  have h := lit_piece ⟨i.val / 128, by omega⟩ ⟨i.val % 128, by omega⟩
  have e : i.val / 128 * 128 + i.val % 128 = i.val := by omega
  dsimp only at h
  rw [e] at h
  exact h

end Cert.KernelIdeal.Val
-- ==== Proof.TopTwo.lean ====
module
public import Idealize.ShloMosaic.Lib.Pointwise
public import Idealize.ShloMosaic.Lib.SortFacts
public import Idealize.ShloMosaic.Lib.WordCmp
@[expose] public section

/-! # The two largest of eight extended reals

The reference takes the two largest logits with a stable sort (`Host.topK`); the kernel takes the largest value, the
lowest index that attains it, lowers that entry to `⊥` and does the same again. Both pick the same ordered pair of
positions when every value is above `⊥`: larger first, equal values in index order. -/

noncomputable section
namespace Cert.Moe
open Idealize.ShloMosaic

/-- Position `p` comes before position `j`: its value is larger, or the values agree and `p` is the lower index. -/
def Before {n : Nat} (L : Fin n → EReal) (p j : Fin n) : Prop := L j < L p ∨ (L j = L p ∧ p < j)

/-- `p` is the first and `q` the second position in the order `Before`. -/
def IsTopTwo {n : Nat} (L : Fin n → EReal) (p q : Fin n) : Prop :=
  (∀ j, j ≠ p → Before L p j) ∧ q ≠ p ∧ ∀ j, j ≠ p → j ≠ q → Before L q j

theorem Before.trans {n : Nat} {L : Fin n → EReal} {a b c : Fin n} (h : Before L a b) (h' : Before L b c) : Before L a c := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

theorem Before.le {n : Nat} {L : Fin n → EReal} {a b : Fin n} (h : Before L a b) : L b ≤ L a := by
  rcases h with h | ⟨h, -⟩
  · exact h.le
  · exact h.le

theorem pairwise_insert {n : Nat} (L : Fin n → EReal) (R : Fin n → Fin n → Bool) (hR : ∀ a b, R a b = true ↔ L b < L a)
    (a : Fin n) (l : List (Fin n)) (ha : ∀ b ∈ l, a < b) (hl : l.Pairwise (Before L)) :
    (insertBefore R a l).Pairwise (Before L) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore R a l).mem_iff.mp hc) with rfl | hc'
      · exact .inl ((hR _ _).mp h)
      · exact hl.1 c hc'
    · rename_i h
      have hab : Before L a b := by
        have h' : L b ≤ L a := not_lt.mp fun hlt => h ((hR _ _).mpr hlt)
        rcases h'.lt_or_eq with h' | h'
        · exact .inl h'
        · exact .inr ⟨h', ha b List.mem_cons_self⟩
      refine List.pairwise_cons.mpr ⟨fun c hc => ?_, List.pairwise_cons.mpr hl⟩
      rcases List.mem_cons.mp hc with rfl | hc'
      · exact hab
      · exact hab.trans (hl.1 c hc')

theorem pairwise_sort {n : Nat} (L : Fin n → EReal) (R : Fin n → Fin n → Bool) (hR : ∀ a b, R a b = true ↔ L b < L a)
    (l : List (Fin n)) (hl : l.Pairwise (· < ·)) : (stableSort R l).Pairwise (Before L) := by
  induction l with
  | nil => exact List.Pairwise.nil
  | cons a l ih =>
    rw [List.pairwise_cons] at hl
    unfold stableSort
    exact pairwise_insert L R hR a _ (fun b hb => hl.1 b ((perm_stableSort R l).mem_iff.mp hb)) (ih hl.2)

/-- The stable sort, larger first, lists the positions in the order `Before`. -/
theorem sortedFrom_before {n : Nat} (L : Fin n → EReal) (R : Fin n → Fin n → Bool) (hR : ∀ a b, R a b = true ↔ L b < L a)
    (i j : Fin n) (hij : i < j) : Before L (sortedFrom R i) (sortedFrom R j) := by
  have hp : ∀ a b : Fin (sortPositions n R).length, a < b →
      Before L ((sortPositions n R).get a) ((sortPositions n R).get b) :=
    List.pairwise_iff_get.mp (pairwise_sort L R hR (List.finRange n) (List.pairwise_lt_finRange n))
  unfold sortedFrom
  exact hp _ _ hij

/-- The first two positions of that sort are the two largest. -/
theorem isTopTwo_sortedFrom (L : Fin 8 → EReal) (R : Fin 8 → Fin 8 → Bool) (hR : ∀ a b, R a b = true ↔ L b < L a) :
    IsTopTwo L (sortedFrom R 0) (sortedFrom R 1) := by
  refine ⟨fun j hj => ?_, fun h => absurd (sortedFrom_injective R h) (by decide), fun j hj hj' => ?_⟩
  · obtain ⟨i, rfl⟩ := sortedFrom_surjective R j
    exact sortedFrom_before L R hR _ _ (Fin.pos_iff_ne_zero.mpr fun h => hj (h ▸ rfl))
  · obtain ⟨i, rfl⟩ := sortedFrom_surjective R j
    refine sortedFrom_before L R hR _ _ ?_
    have h0 : i ≠ 0 := fun h => hj (h ▸ rfl)
    have h1 : i ≠ 1 := fun h => hj' (h ▸ rfl)
    omega

/-- The smallest word of a list of words that stand for small naturals stands for the smallest natural. -/
theorem fold_minsi {ι : Type} (s : Finset ι) (g : ι → Nat) (b : Nat) (hb : b < 2 ^ 31) (hg : ∀ x, g x < 2 ^ 31) :
    s.fold (IntOp.minsi (w := 32)) (BitVec.ofNat 32 b) (fun x => BitVec.ofNat 32 (g x)) = BitVec.ofNat 32 (s.fold min b g)
      ∧ s.fold min b g < 2 ^ 31 := by
  classical
  induction s using Finset.induction_on with
  | empty => exact ⟨rfl, hb⟩
  | insert a s ha ih =>
    rw [Finset.fold_insert ha, Finset.fold_insert ha, ih.1]
    refine ⟨?_, lt_of_le_of_lt (min_le_right _ _) ih.2⟩
    have ha' := WordCmp.toInt_ofNat_of_lt (w := 32) (a := g a) (hg a)
    have hs' := WordCmp.toInt_ofNat_of_lt (w := 32) (a := s.fold min b g) ih.2
    unfold IntOp.minsi
    rw [BitVec.slt_eq_decide, ha', hs']
    by_cases h : g a < s.fold min b g
    · rw [min_eq_left h.le]; simp [h]
    · rw [min_eq_right (not_lt.mp h)]; simp [h]

/-- The lowest index among the positions marked by `P`, as the kernel takes it: positions not marked stand for 8. -/
theorem fold_minsi_eq (P : Fin 8 → Prop) [DecidablePred P] (p : Fin 8) (hp : P p) (hmin : ∀ j, P j → p ≤ j) :
    (Finset.univ : Finset (Fin 8)).fold (IntOp.minsi (w := 32)) (2147483647#32)
      (fun x => if P x then BitVec.ofNat 32 x.val else 8#32) = BitVec.ofNat 32 p.val := by
  have h := fold_minsi (Finset.univ : Finset (Fin 8)) (fun x => if P x then x.val else 8) 2147483647 (by decide)
    (fun x => by split <;> omega)
  have he : (fun x : Fin 8 => if P x then BitVec.ofNat 32 x.val else 8#32)
      = fun x : Fin 8 => BitVec.ofNat 32 (if P x then x.val else 8) := by
    funext x; split <;> rfl
  rw [he]
  refine h.1.trans (congrArg _ (le_antisymm ?_ ?_))
  · refine (Finset.fold_min_le _).mpr (.inr ⟨p, Finset.mem_univ _, ?_⟩)
    rw [if_pos hp]
  · refine (Finset.le_fold_min _).mpr ⟨by omega, fun x _ => ?_⟩
    split
    · rename_i hx; exact hmin x hx
    · omega

/-- A running maximum that starts at `⊥` is a value that is attained and bounds every other. -/
theorem fold_max_eq {n : Nat} (L : Fin n → EReal) (p : Fin n) (h : ∀ j, L j ≤ L p) :
    (Finset.univ : Finset (Fin n)).fold max ⊥ L = L p :=
  le_antisymm ((Finset.fold_max_le _).mpr ⟨bot_le, fun x _ => h x⟩)
    ((Finset.le_fold_max _).mpr (.inr ⟨p, Finset.mem_univ _, le_rfl⟩))

/-- The kernel's first selection is the first position. -/
theorem first_eq {L : Fin 8 → EReal} {p q : Fin 8} (h : IsTopTwo L p q) :
    (Finset.univ : Finset (Fin 8)).fold (IntOp.minsi (w := 32)) (2147483647#32)
      (fun x => if L x = (Finset.univ : Finset (Fin 8)).fold max ⊥ L then BitVec.ofNat 32 x.val else 8#32)
      = BitVec.ofNat 32 p.val := by
  have hle : ∀ j, L j ≤ L p := fun j => by
    rcases eq_or_ne j p with rfl | hj
    · exact le_rfl
    · exact (h.1 j hj).le
  refine fold_minsi_eq (fun x => L x = _) p (fold_max_eq L p hle).symm fun j hj => ?_
  rcases eq_or_ne j p with rfl | hjp
  · exact le_rfl
  · rcases h.1 j hjp with hlt | ⟨-, hi⟩
    · exact absurd (hj.trans (fold_max_eq L p hle)) hlt.ne
    · exact hi.le

/-- The kernel's second selection, on the values with the first position lowered to `⊥`, is the second position. -/
theorem second_eq {L : Fin 8 → EReal} {p q : Fin 8} (h : IsTopTwo L p q) (hL : ∀ j, L j ≠ ⊥) :
    (Finset.univ : Finset (Fin 8)).fold (IntOp.minsi (w := 32)) (2147483647#32)
      (fun x => if (if x = p then ⊥ else L x) = (Finset.univ : Finset (Fin 8)).fold max ⊥ (fun y => if y = p then ⊥ else L y)
        then BitVec.ofNat 32 x.val else 8#32)
      = BitVec.ofNat 32 q.val := by
  have hq : (if q = p then ⊥ else L q) = L q := if_neg h.2.1
  have hle : ∀ j, (if j = p then ⊥ else L j) ≤ (if q = p then ⊥ else L q) := fun j => by
    rw [hq]
    rcases eq_or_ne j p with rfl | hj
    · rw [if_pos rfl]; exact bot_le
    · rw [if_neg hj]
      rcases eq_or_ne j q with rfl | hjq
      · exact le_rfl
      · exact (h.2.2 j hj hjq).le
  have hm := fold_max_eq (fun y => if y = p then ⊥ else L y) q hle
  refine fold_minsi_eq (fun x => (if x = p then ⊥ else L x) = _) q hm.symm fun j hj => ?_
  have hj' := hj.trans (hm.trans hq)
  rcases eq_or_ne j p with rfl | hjp
  · rw [if_pos rfl] at hj'; exact absurd hj'.symm (hL q)
  · rw [if_neg hjp] at hj'
    rcases eq_or_ne j q with rfl | hjq
    · exact le_rfl
    · rcases h.2.2 j hjp hjq with hlt | ⟨-, hi⟩
      · exact absurd hj' hlt.ne
      · exact hi.le

end Cert.Moe
-- ==== Proof.Softmax.lean ====
module
public import Idealize.ShloMosaic.Lib.Pointwise
@[expose] public section

/-! # Softmax of a row of scores in one pass and in two

The reference subtracts the row's maximum, exponentiates, normalises and takes the weighted sum. The kernel keeps a
running maximum, a running normaliser and a running weighted sum over chunks of keys, rescaled when the maximum grows,
and divides once at the end. A score is a real number or `⊥` (a hidden key); the values summed are arbitrary. -/

noncomputable section
namespace Cert.Moe
open Idealize.ShloMosaic

/-- `exp` of a difference of something below `⊤` and a real number is a nonnegative real number. -/
theorem exp_sub_real {s : EReal} (hs : s ≠ ⊤) (m : ℝ) : ∃ r : ℝ, 0 ≤ r ∧ Ideal.exp (s - (m : EReal)) = (r : EReal) := by
  induction s with
  | bot => exact ⟨0, le_rfl, rfl⟩
  | coe s => exact ⟨Real.exp (s - m), (Real.exp_pos _).le, by rw [← EReal.coe_sub, Ideal.exp_coe]⟩
  | top => exact absurd rfl hs

/-- Changing the number subtracted from `m` to `m'` multiplies by `exp (m - m')`. -/
theorem exp_rescale {s : EReal} (hs : s ≠ ⊤) (m m' : ℝ) :
    Ideal.exp (s - (m : EReal)) * Ideal.exp ((m : EReal) - (m' : EReal)) = Ideal.exp (s - (m' : EReal)) := by
  induction s with
  | bot => show (0 : EReal) * _ = (0 : EReal); exact zero_mul _
  | coe s =>
    rw [← EReal.coe_sub, ← EReal.coe_sub, ← EReal.coe_sub, Ideal.exp_coe, Ideal.exp_coe, Ideal.exp_coe, ← EReal.coe_mul,
      ← Real.exp_add]
    congr 2; ring
  | top => exact absurd rfl hs

/-- A nonnegative real factor moves into a sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- The running maximum of a row of scores, none of them `⊤` and one of them real, is real. -/
theorem fold_max_real {n : Nat} (S : Fin n → EReal) (hS : ∀ s, S s ≠ ⊤) (b : EReal) (hb : b ≠ ⊤)
    (h0 : b ≠ ⊥ ∨ ∃ s, S s ≠ ⊥) : ∃ m : ℝ, (Finset.univ : Finset (Fin n)).fold max b S = (m : EReal) := by
  have htop : (Finset.univ : Finset (Fin n)).fold max b S ≠ ⊤ :=
    ((Finset.fold_max_lt _).mpr ⟨lt_top_iff_ne_top.mpr hb, fun x _ => lt_top_iff_ne_top.mpr (hS x)⟩).ne
  have hbot : (Finset.univ : Finset (Fin n)).fold max b S ≠ ⊥ := by
    refine (bot_lt_iff_ne_bot.mp ((Finset.lt_fold_max _).mpr ?_))
    rcases h0 with h | ⟨s, h⟩
    · exact .inl (bot_lt_iff_ne_bot.mpr h)
    · exact .inr ⟨s, Finset.mem_univ _, bot_lt_iff_ne_bot.mpr h⟩
  exact ⟨_, (EReal.coe_toReal htop hbot).symm⟩

/-- The normalised weighted sum of a row. -/
def softAvg {n : Nat} (S V : Fin n → EReal) : EReal :=
  ∑ s, Ideal.div (Ideal.exp (S s - (Finset.univ : Finset (Fin n)).fold max ⊥ S))
    (∑ s', Ideal.exp (S s' - (Finset.univ : Finset (Fin n)).fold max ⊥ S)) * V s

/-- Normalising after the weighted sum is normalising before it. -/
theorem div_sum {n : Nat} (p V : Fin n → EReal) (Z : ℝ) (hZ : 0 < Z) :
    Ideal.div (∑ s, p s * V s) (Z : EReal) = ∑ s, Ideal.div (p s) (Z : EReal) * V s := by
  have hZ' : (Z : EReal) ≠ 0 := by exact_mod_cast hZ.ne'
  have hd : ∀ x : EReal, Ideal.div x (Z : EReal) = x * ((Z⁻¹ : ℝ) : EReal) := fun x => by
    rw [Ideal.div_coe hZ.ne', one_div]
  rw [hd, sum_mul_real _ _ _ (inv_nonneg.mpr hZ.le)]
  exact Finset.sum_congr rfl fun s _ => by rw [hd, mul_right_comm]

/-- A sum of nonnegative reals one of which is positive is a positive real. -/
theorem sum_exp_pos {n : Nat} (S : Fin n → EReal) (hS : ∀ s, S s ≠ ⊤) (m : ℝ) (h0 : ∃ s, S s ≠ ⊥) :
    ∃ Z : ℝ, 0 < Z ∧ ∑ s, Ideal.exp (S s - (m : EReal)) = (Z : EReal) := by
  choose r hr hre using fun s => exp_sub_real (hS s) m
  refine ⟨∑ s, r s, ?_, ?_⟩
  · obtain ⟨s, hs⟩ := h0
    refine Finset.sum_pos' (fun i _ => hr i) ⟨s, Finset.mem_univ _, ?_⟩
    have he := hre s
    lift S s to ℝ using ⟨hS s, hs⟩ with x
    rw [← EReal.coe_sub, Ideal.exp_coe] at he
    exact (EReal.coe_eq_coe_iff.mp he) ▸ Real.exp_pos _
  · rw [Finset.sum_congr rfl fun s _ => hre s]
    exact (map_sum (⟨⟨Real.toEReal, EReal.coe_zero⟩, EReal.coe_add⟩ : ℝ →+ EReal) r Finset.univ).symm

/-- One pass: the weighted sum divided by the normaliser. -/
theorem one_pass {n : Nat} (S V : Fin n → EReal) (hS : ∀ s, S s ≠ ⊤) (h0 : ∃ s, S s ≠ ⊥) :
    Ideal.div (∑ s, Ideal.exp (S s - (Finset.univ : Finset (Fin n)).fold max ⊥ S) * V s)
      (∑ s, Ideal.exp (S s - (Finset.univ : Finset (Fin n)).fold max ⊥ S)) = softAvg S V := by
  unfold softAvg
  obtain ⟨m, hm⟩ := fold_max_real S hS ⊥ bot_ne_top (.inr h0)
  rw [hm]
  obtain ⟨Z, hZ, hZe⟩ := sum_exp_pos S hS m h0
  rw [hZe]
  exact div_sum _ V Z hZ

/-- What the kernel carries over the chunks of keys: running maximum, normaliser and weighted sum. -/
structure Run where
  m : EReal
  l : EReal
  acc : EReal

/-- Before the first chunk. -/
def Run.start : Run := ⟨⊥, 0, 0⟩

/-- One chunk: the maximum grows, the two sums are rescaled and the chunk's terms are added. -/
def Run.step {n : Nat} (S V : Fin n → EReal) (a : Run) : Run :=
  ⟨max a.m ((Finset.univ : Finset (Fin n)).fold max ⊥ S),
   a.l * Ideal.exp (a.m - max a.m ((Finset.univ : Finset (Fin n)).fold max ⊥ S))
     + ∑ s, Ideal.exp (S s - max a.m ((Finset.univ : Finset (Fin n)).fold max ⊥ S)),
   a.acc * Ideal.exp (a.m - max a.m ((Finset.univ : Finset (Fin n)).fold max ⊥ S))
     + ∑ s, Ideal.exp (S s - max a.m ((Finset.univ : Finset (Fin n)).fold max ⊥ S)) * V s⟩

/-- The first chunk starts the sums from nothing. -/
theorem Run.step_start {n : Nat} (S V : Fin n → EReal) : Run.start.step S V =
    ⟨(Finset.univ : Finset (Fin n)).fold max ⊥ S,
     ∑ s, Ideal.exp (S s - (Finset.univ : Finset (Fin n)).fold max ⊥ S),
     ∑ s, Ideal.exp (S s - (Finset.univ : Finset (Fin n)).fold max ⊥ S) * V s⟩ := by
  unfold Run.step Run.start
  simp only [bot_sup_eq, zero_mul, zero_add]

/-- The maximum over two chunks is the larger of the two maxima. -/
theorem fold_max_add {n k : Nat} (S : Fin (n + k) → EReal) :
    (Finset.univ : Finset (Fin (n + k))).fold max ⊥ S
      = max ((Finset.univ : Finset (Fin n)).fold max ⊥ fun s => S (Fin.castAdd k s))
          ((Finset.univ : Finset (Fin k)).fold max ⊥ fun s => S (Fin.natAdd n s)) := by
  refine le_antisymm ((Finset.fold_max_le _).mpr ⟨bot_le, fun x _ => ?_⟩) (max_le ?_ ?_)
  · refine Fin.addCases (fun s => ?_) (fun s => ?_) x
    · exact le_max_of_le_left ((Finset.le_fold_max _).mpr (.inr ⟨s, Finset.mem_univ _, le_rfl⟩))
    · exact le_max_of_le_right ((Finset.le_fold_max _).mpr (.inr ⟨s, Finset.mem_univ _, le_rfl⟩))
  · exact (Finset.fold_max_le _).mpr ⟨bot_le, fun s _ => (Finset.le_fold_max _).mpr (.inr ⟨_, Finset.mem_univ _, le_rfl⟩)⟩
  · exact (Finset.fold_max_le _).mpr ⟨bot_le, fun s _ => (Finset.le_fold_max _).mpr (.inr ⟨_, Finset.mem_univ _, le_rfl⟩)⟩

/-- A rescaled sum of one chunk is that chunk's sum against the new maximum. -/
theorem rescale_sum {n : Nat} (S V : Fin n → EReal) (hS : ∀ s, S s ≠ ⊤) (m m' : ℝ) :
    (∑ s, Ideal.exp (S s - (m : EReal)) * V s) * Ideal.exp ((m : EReal) - (m' : EReal))
      = ∑ s, Ideal.exp (S s - (m' : EReal)) * V s := by
  obtain ⟨c, hc, hce⟩ := exp_sub_real (EReal.coe_ne_top m) m'
  rw [hce, sum_mul_real _ _ _ hc]
  refine Finset.sum_congr rfl fun s _ => ?_
  rw [mul_right_comm, ← hce, exp_rescale (hS s)]

/-- Two chunks, the first of which holds a visible key: the carried quotient is the normalised weighted sum of all keys. -/
theorem two_pass {n k : Nat} (S V : Fin (n + k) → EReal) (hS : ∀ s, S s ≠ ⊤) (h0 : ∃ s : Fin n, S (Fin.castAdd k s) ≠ ⊥) :
    Ideal.div
      (((Run.start.step (fun s : Fin n => S (Fin.castAdd k s)) (fun s => V (Fin.castAdd k s))).step
        (fun s : Fin k => S (Fin.natAdd n s)) (fun s => V (Fin.natAdd n s))).acc)
      (((Run.start.step (fun s : Fin n => S (Fin.castAdd k s)) (fun s => V (Fin.castAdd k s))).step
        (fun s : Fin k => S (Fin.natAdd n s)) (fun s => V (Fin.natAdd n s))).l) = softAvg S V := by
  obtain ⟨m, hm⟩ := fold_max_real (fun s : Fin n => S (Fin.castAdd k s)) (fun s => hS _) ⊥ bot_ne_top (.inr h0)
  obtain ⟨m', hm'⟩ := fold_max_real S hS ⊥ bot_ne_top (.inr ⟨_, h0.choose_spec⟩)
  have hmax := (fold_max_add S).symm.trans hm'
  rw [Run.step_start]
  unfold Run.step
  dsimp only
  rw [hmax, hm, ← one_pass S V hS ⟨_, h0.choose_spec⟩, hm']
  have h1 := rescale_sum (fun s : Fin n => S (Fin.castAdd k s)) (fun s => V (Fin.castAdd k s)) (fun s => hS _) m m'
  have h2 := rescale_sum (fun s : Fin n => S (Fin.castAdd k s)) (fun _ => 1) (fun s => hS _) m m'
  simp only [mul_one] at h2
  rw [h1, h2, Fin.sum_univ_add (fun s => Ideal.exp (S s - (m' : EReal)) * V s), Fin.sum_univ_add (fun s => Ideal.exp (S s - (m' : EReal)))]

/-- One chunk, every later key hidden: the carried quotient is the normalised weighted sum of all keys. -/
theorem one_chunk {n k : Nat} (S V : Fin (n + k) → EReal) (hS : ∀ s, S s ≠ ⊤) (h0 : ∃ s : Fin n, S (Fin.castAdd k s) ≠ ⊥)
    (hk : ∀ s : Fin k, S (Fin.natAdd n s) = ⊥) :
    Ideal.div (Run.start.step (fun s : Fin n => S (Fin.castAdd k s)) (fun s => V (Fin.castAdd k s))).acc
      (Run.start.step (fun s : Fin n => S (Fin.castAdd k s)) (fun s => V (Fin.castAdd k s))).l = softAvg S V := by
  obtain ⟨m, hm⟩ := fold_max_real (fun s : Fin n => S (Fin.castAdd k s)) (fun s => hS _) ⊥ bot_ne_top (.inr h0)
  have hm' : (Finset.univ : Finset (Fin (n + k))).fold max ⊥ S = (m : EReal) := by
    rw [fold_max_add, hm]
    exact max_eq_left ((Finset.fold_max_le _).mpr ⟨bot_le, fun s _ => (hk s).le.trans bot_le⟩)
  have hz : ∀ s : Fin k, Ideal.exp (S (Fin.natAdd n s) - (m : EReal)) = 0 := fun s => by rw [hk s]; rfl
  rw [Run.step_start]
  dsimp only
  rw [hm, ← one_pass S V hS ⟨_, h0.choose_spec⟩, hm', Fin.sum_univ_add (fun s => Ideal.exp (S s - (m : EReal)) * V s),
    Fin.sum_univ_add (fun s => Ideal.exp (S s - (m : EReal)))]
  simp only [hz, zero_mul, Finset.sum_const_zero, add_zero]

end Cert.Moe
-- ==== Proof.Spec.lean ====
module
public import proofs.«01_k».proof.Proof.TopTwo
public import proofs.«01_k».proof.Proof.Softmax
@[expose] public section

/-! # What both programs compute, as functions of rows

A row of hidden states is scored against eight normalised similarity columns; the positive scores (or, when none is
positive, the two largest) switch experts on and a softmax over them gives the eight gate weights. Queries, keys and
values are gate-weighted sums of per-expert projections, attention is causal over 2048 keys, and the output is the
gate-weighted sum of per-expert output projections. -/

noncomputable section
namespace Cert.Moe
open Idealize.ShloMosaic

/-- What is added to a norm before dividing by it. -/
def eps : EReal := Ideal.ofBits .f32 0x2B8CBCCC#32

/-- The value an expert that is off holds in the softmax over experts. -/
def off : EReal := Ideal.ofBits .f32 0xCE6E6B28#32

/-- The factor of the attention scores. -/
def scale : EReal := Ideal.ofBits .f32 0x3E000000#32

/-- An entry of a row divided by the row's norm. -/
def unitRow {n : Nat} (x : Fin n → EReal) (k : Fin n) : EReal :=
  Ideal.div (x k) (Ideal.sqrt (∑ j, x j * x j) + eps)

/-- The score of a row against expert `e`: the cosine less the squashed gate. -/
def logit (x : Fin 1024 → EReal) (sim : Fin 1024 → Fin 8 → EReal) (g : Fin 8 → EReal) (e : Fin 8) : EReal :=
  ∑ k, unitRow x k * unitRow (fun j => sim j e) k - Ideal.logistic (g e)

/-- One where the score is positive, zero elsewhere. -/
def active (L : Fin 8 → EReal) (e : Fin 8) : EReal := if 0 < max (L e) 0 then 1 else 0

/-- One at two positions, zero elsewhere. -/
def pairMask (p q e : Fin 8) : EReal := if e = p ∨ e = q then 1 else 0

/-- The experts that are on: the active ones, or the two largest when none is active. -/
def maskOf (L fb : Fin 8 → EReal) (e : Fin 8) : EReal := if ∑ j, active L j = 0 then fb e else active L e

/-- What the softmax over experts runs over. -/
def shown (L fb : Fin 8 → EReal) (e : Fin 8) : EReal := if 0 < maskOf L fb e then max (L e) 0 else off

/-- The gate weights, given the fallback experts. -/
def gateWith (L fb : Fin 8 → EReal) (e : Fin 8) : EReal :=
  maskOf L fb e * Ideal.div (Ideal.exp (shown L fb e - (Finset.univ : Finset (Fin 8)).fold max ⊥ (shown L fb)))
    (∑ j, Ideal.exp (shown L fb j - (Finset.univ : Finset (Fin 8)).fold max ⊥ (shown L fb)))

/-- Larger first. -/
def larger (L : Fin 8 → EReal) (a b : Fin 8) : Bool := decide (L b < L a)

/-- The first and the second of the two largest. -/
def top0 (L : Fin 8 → EReal) : Fin 8 := sortedFrom (larger L) 0
def top1 (L : Fin 8 → EReal) : Fin 8 := sortedFrom (larger L) 1

theorem isTopTwo (L : Fin 8 → EReal) : IsTopTwo L (top0 L) (top1 L) :=
  isTopTwo_sortedFrom L (larger L) fun _ _ => decide_eq_true_iff

/-- The gate weights of a row of scores. -/
def gate (L : Fin 8 → EReal) (e : Fin 8) : EReal := gateWith L (pairMask (top0 L) (top1 L)) e

/-- The gate weights of a row of hidden states. -/
def weight (x : Fin 1024 → EReal) (sim : Fin 1024 → Fin 8 → EReal) (g : Fin 8 → EReal) (e : Fin 8) : EReal :=
  gate (logit x sim g) e

/-- The gate-weighted sum of the experts' projections of a row. -/
def proj (w : Fin 8 → EReal) (P : Fin 8 → Fin 1024 → Fin 64 → EReal) (x : Fin 1024 → EReal) (d : Fin 64) : EReal :=
  ∑ e, w e * ∑ c, P e c d * x c

/-- The scaled score of query row `q` against key row `k`. -/
def score (q k : Fin 64 → EReal) : EReal := (∑ d, q d * k d) * scale

/-- The causal score: a key after the query is hidden. -/
def causal (t : Fin 2048) (q : Fin 64 → EReal) (k : Fin 2048 → Fin 64 → EReal) (s : Fin 2048) : EReal :=
  if s.val ≤ t.val then score q (k s) else ⊥

/-- Attention of query position `t`. -/
def attend (t : Fin 2048) (q : Fin 64 → EReal) (k v : Fin 2048 → Fin 64 → EReal) (d : Fin 64) : EReal :=
  softAvg (causal t q k) (fun s => v s d)

/-- The gate-weighted sum of the experts' output projections. -/
def output (w : Fin 8 → EReal) (a : Fin 64 → EReal) (O : Fin 8 → Fin 64 → Fin 1024 → EReal) (c : Fin 1024) : EReal :=
  ∑ e, ∑ d, w e * a d * O e d c

/-- A position of a batch as a row of the flat token array. -/
def row (b : Fin 4) (t : Fin 2048) : Fin 8192 := ⟨b.val * 2048 + t.val, by omega⟩

/-- The layer's result at batch `b`, position `t`, channel `c`. -/
def layer (X : Fin 8192 → Fin 1024 → EReal) (sim : Fin 1024 → Fin 8 → EReal) (g : Fin 8 → EReal)
    (Q K V : Fin 8 → Fin 1024 → Fin 64 → EReal) (O : Fin 8 → Fin 64 → Fin 1024 → EReal)
    (b : Fin 4) (t : Fin 2048) (c : Fin 1024) : EReal :=
  output (weight (X (row b t)) sim g)
    (attend t (proj (weight (X (row b t)) sim g) Q (X (row b t)))
      (fun s => proj (weight (X (row b s)) sim g) K (X (row b s)))
      (fun s => proj (weight (X (row b s)) sim g) V (X (row b s)))) O c

end Cert.Moe
-- ==== Proof.Reals.lean ====
module
public import proofs.«01_k».proof.Proof.Spec
@[expose] public section

/-! # Which of these values are real numbers

The scores against the experts are real whatever the inputs hold: a row with an infinite entry has an infinite norm, and
its normalised entries are zero. The gate weights are then real too. The attention scores are real when the hidden
states and the query and key projections are. -/

noncomputable section
namespace Cert.Moe
open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ite {p : Prop} [Decidable p] {x y : EReal} (hx : IsReal x) (hy : IsReal y) : IsReal (if p then x else y) := by
  split <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a
theorem isReal_of_ne {x : EReal} (h : x ≠ ⊤) (h' : x ≠ ⊥) : IsReal x := ⟨_, (EReal.coe_toReal h h').symm⟩

theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

theorem isReal_div {x y : EReal} (hx : IsReal x) {z : ℝ} (hz : z ≠ 0) (hy : y = (z : EReal)) : IsReal (Ideal.div x y) := by
  rw [hy, Ideal.div_coe hz]; exact hx.mul (isReal_coe _)

/-- The number added to the norms is a positive real. -/
theorem eps_pos : ∃ r : ℝ, 0 < r ∧ eps = (r : EReal) := by
  refine ⟨_, ?_, by unfold eps; simp [Ideal.ofBits, Ideal.ieee]; norm_cast⟩
  norm_num

theorem off_real : IsReal off := by
  unfold off
  simp [Ideal.ofBits, Ideal.ieee]
  exact ⟨_, by norm_cast⟩

theorem scale_real : IsReal scale := by
  unfold scale
  simp [Ideal.ofBits, Ideal.ieee]
  exact ⟨_, by norm_cast⟩

/-- A normalised entry is real. -/
theorem unitRow_real {n : Nat} (x : Fin n → EReal) (k : Fin n) : IsReal (unitRow x k) := by
  unfold unitRow
  obtain ⟨ε, hε, he⟩ := eps_pos
  have hnn : ∀ j, 0 ≤ x j * x j := fun j => by
    induction x j with
    | bot => rw [EReal.bot_mul_bot]; exact le_top
    | coe r => rw [← EReal.coe_mul]; exact EReal.coe_nonneg.mpr (mul_self_nonneg r)
    | top => rw [EReal.top_mul_top]; exact le_top
  by_cases h : ∀ j, IsReal (x j)
  · choose r hr using h
    have hs : ∑ j, x j * x j = ((∑ j, r j * r j : ℝ) : EReal) := by
      rw [Finset.sum_congr rfl fun j _ => by rw [hr j, ← EReal.coe_mul]]
      exact (map_sum (⟨⟨Real.toEReal, EReal.coe_zero⟩, EReal.coe_add⟩ : ℝ →+ EReal) _ Finset.univ).symm
    have h0 : 0 ≤ ∑ j, r j * r j := Finset.sum_nonneg fun j _ => mul_self_nonneg (r j)
    rw [hs, Ideal.sqrt_coe, if_neg (not_lt.mpr h0), he, ← EReal.coe_add]
    exact isReal_div ⟨_, hr k⟩ (by positivity : Real.sqrt (∑ j, r j * r j) + ε ≠ 0) rfl
  · obtain ⟨j, hj⟩ := not_forall.mp h
    have hjt : x j * x j = ⊤ := by
      by_cases ht : x j = ⊤
      · rw [ht]; exact EReal.top_mul_top
      by_cases hb : x j = ⊥
      · rw [hb]; exact EReal.bot_mul_bot
      exact absurd (isReal_of_ne ht hb) hj
    have hs : ∑ j, x j * x j = ⊤ := top_le_iff.mp (hjt ▸ Finset.single_le_sum (f := fun j => x j * x j) (fun i _ => hnn i) (Finset.mem_univ j))
    rw [hs, Ideal.sqrt_top, he, EReal.top_add_coe]
    unfold Ideal.div
    rw [if_neg EReal.top_ne_zero, EReal.inv_top, mul_zero]
    exact isReal_zero

theorem logistic_real (x : EReal) : IsReal (Ideal.logistic x) := by
  induction x with
  | bot => rw [Ideal.logistic_bot]; exact isReal_zero
  | coe r => rw [Ideal.logistic_coe]; exact isReal_coe _
  | top => rw [Ideal.logistic_top]; exact isReal_one

theorem logit_real (x : Fin 1024 → EReal) (sim : Fin 1024 → Fin 8 → EReal) (g : Fin 8 → EReal) (e : Fin 8) :
    IsReal (logit x sim g e) :=
  (isReal_sum _ _ fun k _ => (unitRow_real x k).mul (unitRow_real _ k)).sub (logistic_real _)

/-- The gate weights of real scores are real. -/
theorem gate_real (L : Fin 8 → EReal) (hL : ∀ e, IsReal (L e)) (e : Fin 8) : IsReal (gate L e) := by
  unfold gate gateWith
  have hact : ∀ j, IsReal (active L j) := fun j => isReal_one.ite isReal_zero
  have hmask : ∀ j, IsReal (maskOf L (pairMask (top0 L) (top1 L)) j) := fun j => (isReal_one.ite isReal_zero).ite (hact j)
  have hsh : ∀ j, IsReal (shown L (pairMask (top0 L) (top1 L)) j) := fun j => ((hL j).max isReal_zero).ite off_real
  obtain ⟨m, hm⟩ := fold_max_real (shown L (pairMask (top0 L) (top1 L))) (fun j => (hsh j).ne_top) ⊥ bot_ne_top
    (.inr ⟨0, (hsh 0).ne_bot⟩)
  rw [hm]
  obtain ⟨Z, hZ, hZe⟩ := sum_exp_pos (shown L (pairMask (top0 L) (top1 L))) (fun j => (hsh j).ne_top) m ⟨0, (hsh 0).ne_bot⟩
  obtain ⟨r, -, hr⟩ := exp_sub_real (hsh e).ne_top m
  exact (hmask e).mul (isReal_div ⟨r, hr⟩ hZ.ne' hZe)

theorem weight_real (x : Fin 1024 → EReal) (sim : Fin 1024 → Fin 8 → EReal) (g : Fin 8 → EReal) (e : Fin 8) :
    IsReal (weight x sim g e) := gate_real _ (logit_real x sim g) e

theorem proj_real (w : Fin 8 → EReal) (P : Fin 8 → Fin 1024 → Fin 64 → EReal) (x : Fin 1024 → EReal)
    (hw : ∀ e, IsReal (w e)) (hP : ∀ e c d, IsReal (P e c d)) (hx : ∀ c, IsReal (x c)) (d : Fin 64) : IsReal (proj w P x d) :=
  isReal_sum _ _ fun e _ => (hw e).mul (isReal_sum _ _ fun c _ => (hP e c d).mul (hx c))

theorem score_real (q k : Fin 64 → EReal) (hq : ∀ d, IsReal (q d)) (hk : ∀ d, IsReal (k d)) : IsReal (score q k) :=
  (isReal_sum _ _ fun d _ => (hq d).mul (hk d)).mul scale_real

/-- A causal score is not `⊤` when the queries and the keys are real, and the first key is visible to every query. -/
theorem causal_ne_top (t : Fin 2048) (q : Fin 64 → EReal) (k : Fin 2048 → Fin 64 → EReal) (hq : ∀ d, IsReal (q d))
    (hk : ∀ s d, IsReal (k s d)) (s : Fin 2048) : causal t q k s ≠ ⊤ := by
  unfold causal
  split
  · exact (score_real q (k s) hq (hk s)).ne_top
  · exact bot_ne_top

theorem causal_zero_ne_bot (t : Fin 2048) (q : Fin 64 → EReal) (k : Fin 2048 → Fin 64 → EReal) (hq : ∀ d, IsReal (q d))
    (hk : ∀ s d, IsReal (k s d)) (s : Fin 2048) (hs : s.val = 0) : causal t q k s ≠ ⊥ := by
  unfold causal
  rw [if_pos (by omega)]
  exact (score_real q (k s) hq (hk s)).ne_bot

end Cert.Moe
-- ==== Proof.Words.lean ====
module
public import proofs.«01_k».proof.Proof.Reals
@[expose] public section

/-! # Literals and truth values as extended reals -/

noncomputable section
namespace Cert.Moe
open Idealize.ShloMosaic

/-- The literal of minus infinity. -/
theorem ninf_eq : Ideal.ofBits .f32 0xFF800000#32 = ⊥ := by simp [Ideal.ofBits, Ideal.ieee]

/-- A truth value read as a float. -/
theorem uitofp_ofBool (b : Bool) : (FloatOps.uitofp (F := Ideal) .f32 (BitVec.ofBool b) : EReal) = if b then 1 else 0 := by
  cases b
  · show (((0 : ℕ) : ℝ) : EReal) = _; simp
  · show (((1 : ℕ) : ℝ) : EReal) = _; simp

/-- A truth value widened to a word and read as a float. -/
theorem sitofp_ofBool (b : Bool) :
    (FloatOps.sitofp (F := Ideal) .f32 ((BitVec.ofBool b).setWidth 32) : EReal) = if b then 1 else 0 := by
  cases b
  · show (((0 : ℤ) : ℝ) : EReal) = _; simp
  · show (((1 : ℤ) : ℝ) : EReal) = _; simp

/-- Two words of small indices are equal exactly when the indices are. -/
theorem cmpi_eq_fin {n : Nat} (hn : n ≤ 2 ^ 32) (a b : Fin n) :
    IntOp.cmpi .eq (BitVec.ofNat 32 a.val) (BitVec.ofNat 32 b.val) = BitVec.ofBool (decide (a = b)) := by
  rw [WordCmp.cmpi_eq_ofNat (by omega) (by omega)]
  congr 1
  exact decide_eq_decide.mpr Fin.ext_iff.symm

/-- The pair mask is the sum of the two one-hot rows. -/
theorem pairMask_sum (p q e : Fin 8) (h : q ≠ p) :
    (∑ j : Fin 2, if (if j = 0 then p else q) = e then (1 : EReal) else 0) = pairMask p q e := by
  rw [Fin.sum_univ_two]
  unfold pairMask
  rw [if_pos rfl, if_neg (by decide : (1 : Fin 2) ≠ 0)]
  by_cases hp : p = e
  · subst hp
    simp [h]
  · by_cases hq : q = e
    · subst hq; simp [hp]
    · simp [hp, hq, Ne.symm hp, Ne.symm hq, eq_comm]

end Cert.Moe
-- ==== Proof.HostIn.lean ====
/- What the host line before the first call leaves in each array that a call reads, at an index. -/
module
public import proofs.«01_k».proof.Proof.KRun
public import proofs.«01_k».proof.Proof.OneHot
public import proofs.«01_k».proof.Proof.Words
public import Idealize.ShloMosaic.Lib.Pipeline.ValueKit
@[expose] public section
set_option maxRecDepth 16384

noncomputable section
namespace Cert.KernelIdeal.Val
open Idealize.ShloMosaic Idealize.ShloMosaic.TcCoe Idealize.ShloMosaic.Tactic Idealize.SL Idealize.SL.Sem
open Cert.KernelIdeal Cert.KernelIdeal.Gen

variable (m : (ℓ : Loc nD τ sig) → Buf (Elt Ideal) ℓ) (ρ : Dev nD → PrngReg) (c : Dev nD)

/-- The rows, flattened. -/
theorem v0_at (t : Fin 8192) (k : Fin 1024) :
    (W1 m ρ c (Proc.devRef .tc main_v0) : FVec Ideal S8192x1024 .f32) (ix2 t k)
      = (m ((c : Thread nD τ).loc main_arg0) : FVec Ideal S4x2048x1024 .f32) (ix3 ⟨t.val / 2048, by omega⟩ ⟨t.val % 2048, by omega⟩ k) := by
  unfold W1
  entry_read
  pointwise

/-- The gate thresholds as one row. -/
theorem v11_at (e : Fin 8) :
    (W1 m ρ c (Proc.devRef .tc main_v11) : FVec Ideal S1x8 .f32) (ix2 0 e)
      = (m ((c : Thread nD τ).loc main_arg2) : FVec Ideal S8 .f32) (ix1 e) := by
  unfold W1
  entry_read
  pointwise

/-- The output matrices, one under the other. -/
theorem v10_at (e : Fin 8) (d : Fin 64) (k : Fin 1024) :
    (W1 m ρ c (Proc.devRef .tc main_v10) : FVec Ideal S512x1024 .bf16) (ix2 ⟨e.val * 64 + d.val, by omega⟩ k)
      = (m ((c : Thread nD τ).loc main_arg6) : FVec Ideal S8x64x1024 .f32) (ix3 e d k) := by
  unfold W1
  entry_read
  pointwise
  have h1 : (e.val * 64 + d.val) / 64 = e.val := by omega
  have h2 : (e.val * 64 + d.val) % 64 = d.val := by omega
  exact congrArg (m ((c : Thread nD τ).loc main_arg6)) (congrArg₂ (fun (i : Fin 8) (j : Fin 64) => ix3 i j k) (Fin.ext h1) (Fin.ext h2))

/-- The three stacks of matrices, each laid side by side, side by side. -/
def packed (a b d : FVec Ideal S8x1024x64 .f32) : FVec Ideal S1024x1536 .bf16 :=
  truncf (F := Ideal) .bf16 (concatenate S1024x1536 1
    [⟨S1024x512, shapeCast S1024x512 (transpose S1024x8x64 [1, 0, 2] a transposes_S8x1024x64_S1024x8x64_1_0_2) shapeCasts_S1024x8x64_S1024x512⟩,
     ⟨S1024x512, shapeCast S1024x512 (transpose S1024x8x64 [1, 0, 2] b transposes_S8x1024x64_S1024x8x64_1_0_2) shapeCasts_S1024x8x64_S1024x512⟩,
     ⟨S1024x512, shapeCast S1024x512 (transpose S1024x8x64 [1, 0, 2] d transposes_S8x1024x64_S1024x8x64_1_0_2) shapeCasts_S1024x8x64_S1024x512⟩]
    concatenates_S1024x512_S1024x512_S1024x512_S1024x1536_d1) bitsLt_bf16_f32

/-- The host line up to the three reshaped stacks. -/
abbrev early : List (HloOp τ sig (Elt Ideal)) := hostOps0.take 8

/-- The host line from the concatenation on. -/
abbrev late : List (HloOp τ sig (Elt Ideal)) := hostOps0.drop 8

theorem early_v2 : (StableHlo.after early (W0 m ρ c) (Proc.devRef .tc main_v2) : FVec Ideal S1024x512 .f32)
    = shapeCast S1024x512 (transpose S1024x8x64 [1, 0, 2] (m ((c : Thread nD τ).loc main_arg3) : FVec Ideal S8x1024x64 .f32) transposes_S8x1024x64_S1024x8x64_1_0_2) shapeCasts_S1024x8x64_S1024x512 := by
  simp only [early, hostOps0, List.take]
  entry_read
  rfl

theorem early_v4 : (StableHlo.after early (W0 m ρ c) (Proc.devRef .tc main_v4) : FVec Ideal S1024x512 .f32)
    = shapeCast S1024x512 (transpose S1024x8x64 [1, 0, 2] (m ((c : Thread nD τ).loc main_arg4) : FVec Ideal S8x1024x64 .f32) transposes_S8x1024x64_S1024x8x64_1_0_2) shapeCasts_S1024x8x64_S1024x512 := by
  simp only [early, hostOps0, List.take]
  entry_read
  rfl

theorem early_v6 : (StableHlo.after early (W0 m ρ c) (Proc.devRef .tc main_v6) : FVec Ideal S1024x512 .f32)
    = shapeCast S1024x512 (transpose S1024x8x64 [1, 0, 2] (m ((c : Thread nD τ).loc main_arg5) : FVec Ideal S8x1024x64 .f32) transposes_S8x1024x64_S1024x8x64_1_0_2) shapeCasts_S1024x8x64_S1024x512 := by
  simp only [early, hostOps0, List.take]
  entry_read
  rfl

theorem late_v8 (Y : Valuation τ sig (Elt Ideal)) : (StableHlo.after late Y (Proc.devRef .tc main_v8) : FVec Ideal S1024x1536 .bf16)
    = truncf (F := Ideal) .bf16 (concatenate S1024x1536 1
    [⟨S1024x512, (Y (Proc.devRef .tc main_v2) : FVec Ideal S1024x512 .f32)⟩, ⟨S1024x512, (Y (Proc.devRef .tc main_v4) : FVec Ideal S1024x512 .f32)⟩, ⟨S1024x512, (Y (Proc.devRef .tc main_v6) : FVec Ideal S1024x512 .f32)⟩]
    concatenates_S1024x512_S1024x512_S1024x512_S1024x1536_d1) bitsLt_bf16_f32 := by
  simp only [late, hostOps0, List.drop, StableHlo.after_cons, StableHlo.after_nil]
  rw [StableHlo.unary_result_ne _ _ _ _ _ _ (by decide), StableHlo.reshape_result_ne _ _ _ _ _ _ _ (by decide), StableHlo.unary_result_ne _ _ _ _ _ _ (by decide), StableHlo.reshape_result_ne _ _ _ _ _ _ _ (by decide), StableHlo.unary_result, StableHlo.nary_result]
  rfl

/-- What the first call's fourth operand holds. -/
theorem v8_eq : (W1 m ρ c (Proc.devRef .tc main_v8) : FVec Ideal S1024x1536 .bf16)
    = packed (m ((c : Thread nD τ).loc main_arg3)) (m ((c : Thread nD τ).loc main_arg4)) (m ((c : Thread nD τ).loc main_arg5)) := by
  refine (late_v8 (StableHlo.after early (W0 m ρ c))).trans ?_
  rw [early_v2, early_v4, early_v6]
  rfl

/-- The packed matrices at a column. -/
theorem packed_at (a b d : FVec Ideal S8x1024x64 .f32) (k : Fin 1024) (j : Fin 1536) :
    packed a b d (ix2 k j) = if h : j.val < 512 then a (ix3 ⟨j.val / 64, by omega⟩ k ⟨j.val % 64, by omega⟩)
      else if h : j.val - 512 < 512 then b (ix3 ⟨(j.val - 512) / 64, by omega⟩ k ⟨(j.val - 512) % 64, by omega⟩)
      else d (ix3 ⟨(j.val - 512 - 512) / 64, by omega⟩ k ⟨(j.val - 512 - 512) % 64, by omega⟩) := by
  pointwise [packed]

/-- The query matrices in the packed operand. -/
theorem v8_at3 (e : Fin 8) (k : Fin 1024) (d : Fin 64) :
    (W1 m ρ c (Proc.devRef .tc main_v8) : FVec Ideal S1024x1536 .bf16) (ix2 k ⟨e.val * 64 + d.val, by omega⟩)
      = (m ((c : Thread nD τ).loc main_arg3) : FVec Ideal S8x1024x64 .f32) (ix3 e k d) := by
  rw [v8_eq, packed_at]
  have h1 : (e.val * 64 + d.val) / 64 = e.val := by omega
  have h2 : (e.val * 64 + d.val) % 64 = d.val := by omega
  dsimp only
  rw [dif_pos (show e.val * 64 + d.val < 512 by omega)]
  exact congrArg (m ((c : Thread nD τ).loc main_arg3)) (congrArg₂ (fun (i : Fin 8) (j : Fin 64) => ix3 i k j) (Fin.ext h1) (Fin.ext h2))

/-- The key matrices in the packed operand. -/
theorem v8_at4 (e : Fin 8) (k : Fin 1024) (d : Fin 64) :
    (W1 m ρ c (Proc.devRef .tc main_v8) : FVec Ideal S1024x1536 .bf16) (ix2 k ⟨512 + (e.val * 64 + d.val), by omega⟩)
      = (m ((c : Thread nD τ).loc main_arg4) : FVec Ideal S8x1024x64 .f32) (ix3 e k d) := by
  rw [v8_eq, packed_at]
  have h1 : (512 + (e.val * 64 + d.val) - 512) / 64 = e.val := by omega
  have h2 : (512 + (e.val * 64 + d.val) - 512) % 64 = d.val := by omega
  dsimp only
  rw [dif_neg (show ¬ 512 + (e.val * 64 + d.val) < 512 by omega), dif_pos (show 512 + (e.val * 64 + d.val) - 512 < 512 by omega)]
  exact congrArg (m ((c : Thread nD τ).loc main_arg4)) (congrArg₂ (fun (i : Fin 8) (j : Fin 64) => ix3 i k j) (Fin.ext h1) (Fin.ext h2))

/-- The value matrices in the packed operand. -/
theorem v8_at5 (e : Fin 8) (k : Fin 1024) (d : Fin 64) :
    (W1 m ρ c (Proc.devRef .tc main_v8) : FVec Ideal S1024x1536 .bf16) (ix2 k ⟨1024 + (e.val * 64 + d.val), by omega⟩)
      = (m ((c : Thread nD τ).loc main_arg5) : FVec Ideal S8x1024x64 .f32) (ix3 e k d) := by
  rw [v8_eq, packed_at]
  have h1 : (1024 + (e.val * 64 + d.val) - 512 - 512) / 64 = e.val := by omega
  have h2 : (1024 + (e.val * 64 + d.val) - 512 - 512) % 64 = d.val := by omega
  dsimp only
  rw [dif_neg (show ¬ 1024 + (e.val * 64 + d.val) < 512 by omega), dif_neg (show ¬ 1024 + (e.val * 64 + d.val) - 512 < 512 by omega)]
  exact congrArg (m ((c : Thread nD τ).loc main_arg5)) (congrArg₂ (fun (i : Fin 8) (j : Fin 64) => ix3 i k j) (Fin.ext h1) (Fin.ext h2))

/-- The one-hot table, read as numbers. -/
theorem table_at (e : Fin 8) (j : Fin 1536) :
    Ideal.ofBits .f32 (lit0 (S8x1536.rowMajor (ix2 e j))) = if (j.val / 64) % 8 = e.val then (1 : EReal) else 0 := by
  refine (congrArg (Ideal.ofBits .f32) (lit_at _)).trans ?_
  have h : (S8x1536.rowMajor (ix2 e j)).val = e.val * 1536 + j.val := rowMajor_val2 _ 1536 rfl
  rw [h, show (e.val * 1536 + j.val) % 1536 = j.val by omega, show (e.val * 1536 + j.val) / 1536 = e.val by omega]
  split
  · exact Ideal.ofBits_one_f32
  · exact Ideal.ofBits_zero_f32

/-- The one-hot table. -/
theorem cst_at (e : Fin 8) (j : Fin 1536) :
    (W1 m ρ c (Proc.devRef .tc main_cst) : FVec Ideal S8x1536 .f32) (ix2 e j)
      = if (j.val / 64) % 8 = e.val then (1 : EReal) else 0 := by
  unfold W1
  entry_read
  exact table_at e j

/-- Its first columns. -/
theorem v12_at (e : Fin 8) (j : Fin 512) :
    (W1 m ρ c (Proc.devRef .tc main_v12) : FVec Ideal S8x512 .f32) (ix2 e j)
      = if j.val / 64 = e.val then (1 : EReal) else 0 := by
  have h := table_at e ⟨j.val, by omega⟩
  have h8 : j.val / 64 % 8 = j.val / 64 := by omega
  dsimp only at h
  rw [h8] at h
  refine Eq.trans ?_ h
  unfold W1
  entry_read
  pointwise

end Cert.KernelIdeal.Val
-- ==== Proof.BlockGate.lean ====
module
public import proofs.«01_k».proof.Proof.KRun
public import proofs.«01_k».proof.Proof.Words
public import Idealize.ShloMosaic.Lib.Pipeline.ValueKit
@[expose] public section
set_option maxRecDepth 16384

/-! # What one block of the first call computes: the gate weights of its rows -/

noncomputable section
namespace Cert.KernelIdeal.Val
open Idealize.ShloMosaic Idealize.ShloMosaic.TcCoe Idealize.SL.Sem Cert.KernelIdeal Cert.KernelIdeal.Gen
open Cert.Moe

variable (x0 : Vec Ideal S512x1024 .f32) (x1 : Vec Ideal S1024x8 .f32) (x2 : Vec Ideal S1x8 .f32)

/-- Row `r` of a block of hidden states, the similarity columns, and the gates. -/
abbrev bX (r : Fin 512) (k : Fin 1024) : EReal := x0 (ix2 r k)
abbrev bSim (k : Fin 1024) (e : Fin 8) : EReal := x1 (ix2 k e)
abbrev bG (e : Fin 8) : EReal := x2 (ix2 0 e)
/-- The scores of row `r`. -/
abbrev bL (r : Fin 512) : Fin 8 → EReal := logit (bX x0 r) (bSim x1) (bG x2)

theorem pay4_at (e : Fin 8) (r : Fin 512) : k0_pay4 x0 x1 x2 (ix2 e r) = bL x0 x1 x2 r e := by
  pointwise [k0_pay4, k0_pay3]
  rfl

theorem pay5_at (e : Fin 8) (r : Fin 512) : k0_pay5 x0 x1 x2 (ix2 e r) = max (bL x0 x1 x2 r e) 0 := by
  pointwise [k0_pay5, pay4_at]

theorem pay6_at (e : Fin 8) (r : Fin 512) : k0_pay6 x0 x1 x2 (ix2 e r) = active (bL x0 x1 x2 r) e := by
  pointwise [k0_pay6, pay5_at]
  rw [sitofp_ofBool]
  simp only [decide_eq_true_eq]
  rfl

theorem pay7_at (r : Fin 512) : k0_pay7 x0 x1 x2 (ix2 0 r) = BitVec.ofNat 32 (top0 (bL x0 x1 x2 r)).val := by
  pointwise [k0_pay7, pay4_at]
  rw [ninf_eq]
  exact first_eq (isTopTwo (bL x0 x1 x2 r))

theorem pay8_at (e : Fin 8) (r : Fin 512) : k0_pay8 x0 x1 x2 (ix2 e r) = BitVec.ofBool (decide (e = top0 (bL x0 x1 x2 r))) := by
  pointwise [k0_pay8, pay7_at]
  exact cmpi_eq_fin (by decide) e (top0 (bL x0 x1 x2 r))

theorem pay9_at (v25 v27 v31 : FVec Ideal S8x512 .f32) (v40 : IVec S1x512 32) (v42 : IVec S8x512 1) (L : Fin 8 → EReal)
    (r : Fin 512) (hL : ∀ e, IsReal (L e)) (h25 : ∀ e, v25 (ix2 e r) = L e) (h27 : ∀ e, v27 (ix2 e r) = max (L e) 0)
    (h31 : ∀ e, v31 (ix2 e r) = active L e) (h40 : v40 (ix2 0 r) = BitVec.ofNat 32 (top0 L).val)
    (h42 : ∀ e, v42 (ix2 e r) = BitVec.ofBool (decide (e = top0 L))) (e : Fin 8) :
    k0_pay9 v25 v27 v31 (iota .tc S8x512 32 [0] iota_S8x512_d0_w32) v40 v42 (ix2 r e) = gate L e := by
  have hlow : (Named.named (F := Ideal) (φ := .f32) κ "low" 0xFF61B1E6#32 : EReal) = ⊥ := rfl
  have h2 := second_eq (isTopTwo L) fun j => (hL j).ne_bot
  have hfb : ∀ j : Fin 8, (FloatOps.sitofp (F := Ideal) .f32 (BitVec.setWidth 32
      (IntOp.ori (IntOp.cmpi .eq (BitVec.ofNat 32 j.val) (BitVec.ofNat 32 (top0 L).val))
        (IntOp.cmpi .eq (BitVec.ofNat 32 j.val) (BitVec.ofNat 32 (top1 L).val)))) : EReal) = pairMask (top0 L) (top1 L) j := by
    intro j
    rw [cmpi_eq_fin (by decide), cmpi_eq_fin (by decide), WordCmp.ori_ofBool, sitofp_ofBool]
    unfold pairMask
    simp only [Bool.or_eq_true, decide_eq_true_eq]
  pointwise [k0_pay9, h25, h27, h31, h40, h42]
  rw [ninf_eq, hlow, h2]
  simp only [hfb]
  rfl

end Cert.KernelIdeal.Val
-- ==== Proof.BlockProj.lean ====
module
public import proofs.«01_k».proof.Proof.BlockGate
@[expose] public section
set_option maxRecDepth 16384

/-! # What one block of the first call computes: the projected rows -/

noncomputable section
namespace Cert.KernelIdeal.Val
open Idealize.ShloMosaic Idealize.ShloMosaic.TcCoe Idealize.SL.Sem Cert.KernelIdeal Cert.KernelIdeal.Gen
open Cert.Moe

/-- The eight terms added as a tree of pairs are the sum over the experts. -/
theorem tree_eq (f : Fin 8 → EReal) :
    ((f 0 + f 1) + (f 2 + f 3)) + ((f 4 + f 5) + (f 6 + f 7)) = ∑ e, f e := by
  rw [Fin.sum_univ_eight]
  simp only [add_assoc]

/-- A weighted sum against a one-hot row is one weight. -/
theorem sum_onehot (w : Fin 8 → EReal) (e : Fin 8) : (∑ j, w j * if j = e then 1 else 0) = w e := by
  rw [Finset.sum_eq_single e]
  · rw [if_pos rfl, mul_one]
  · intro j _ h; rw [if_neg h, mul_zero]
  · intro h; exact absurd (Finset.mem_univ e) h

variable (x0 : Vec Ideal S512x1024 .f32) (x1 : Vec Ideal S1024x8 .f32) (x2 : Vec Ideal S1x8 .f32)
  (x3 : Vec Ideal S1024x1536 .bf16) (x4 : Vec Ideal S8x1536 .f32)

/-- The gate weights of row `r`. -/
abbrev bW (r : Fin 512) (e : Fin 8) : EReal := weight (bX x0 r) (bSim x1) (bG x2) e

theorem hz2 : (![0, 0] : Fin 2 → Nat) = fun _ => 0 := by decide

theorem pay26_at (r : Fin 512) (e : Fin 8) : k0_pay26 x0 x1 x2 x3 x4 (ix2 r e) = bW x0 x1 x2 r e := by
  unfold k0_pay26 k0_pay20 k0_pay21 k0_pay22 k0_pay23 k0_pay24 k0_pay25
  simp only [View.ld_unit_zero (S := S512x1024) hz2, View.ld_unit_zero (S := S1024x8) hz2, View.ld_unit_zero (S := S1x8) hz2]
  exact pay9_at _ _ _ _ _ _ r (logit_real _ _ _) (fun e => pay4_at x0 x1 x2 e r) (fun e => pay5_at x0 x1 x2 e r)
    (fun e => pay6_at x0 x1 x2 e r) (pay7_at x0 x1 x2 r) (fun e => pay8_at x0 x1 x2 e r) e

theorem out0_8_at (r : Fin 512) (e : Fin 8) : out0_8 x0 x1 x2 x3 x4 (ix2 r e) = bW x0 x1 x2 r e := by
  unfold out0_8
  rw [View.canon_unit_zero hz2]
  exact pay26_at x0 x1 x2 x3 x4 r e

theorem pay27_at (r : Fin 512) (j : Fin 1536) : k0_pay27 x0 x1 x2 x3 x4 (ix2 r j) = ∑ c, bX x0 r c * x3 (ix2 c j) := by
  unfold k0_pay27
  simp only [View.ld_unit_zero (S := S512x1024) hz2, View.ld_unit_zero (S := S1024x1536) hz2]
  pointwise [k0_pay10, k0_pay3]

theorem pay28_at (r : Fin 512) (j : Fin 1536) : k0_pay28 x0 x1 x2 x3 x4 (ix2 r j) = ∑ e, bW x0 x1 x2 r e * x4 (ix2 e j) := by
  unfold k0_pay28
  simp only [View.ld_unit_zero (S := S8x1536) hz2]
  pointwise [k0_pay11, pay26_at]

theorem pay11_at (r : Fin 512) (j : Fin 1536) : k0_pay11 (k0_pay26 x0 x1 x2 x3 x4) x4 (ix2 r j) = ∑ e, bW x0 x1 x2 r e * x4 (ix2 e j) := by
  pointwise [k0_pay11, pay26_at]

/-- The tree over eight column groups, each scaled by the weight its one-hot columns pick, is the projected row. -/
theorem tree_proj (hB : ∀ (e : Fin 8) (j : Fin 1536), x4 (ix2 e j) = if (j.val / 64) % 8 = e.val then (1 : EReal) else 0)
    (r : Fin 512) (d : Fin 64) (J : Fin 8 → Fin 64 → Fin 1536) (hJ : ∀ e d, ((J e d).val / 64) % 8 = e.val)
    (j0 j1 j2 j3 j4 j5 j6 j7 : Fin 1536) (h0 : j0 = J 0 d) (h1 : j1 = J 1 d) (h2 : j2 = J 2 d) (h3 : j3 = J 3 d) (h4 : j4 = J 4 d) (h5 : j5 = J 5 d) (h6 : j6 = J 6 d) (h7 : j7 = J 7 d) :
    (((∑ c, bX x0 r c * x3 (ix2 c j0)) * ∑ e, bW x0 x1 x2 r e * x4 (ix2 e j0) : EReal) + ((∑ c, bX x0 r c * x3 (ix2 c j1)) * ∑ e, bW x0 x1 x2 r e * x4 (ix2 e j1) : EReal)) + (((∑ c, bX x0 r c * x3 (ix2 c j2)) * ∑ e, bW x0 x1 x2 r e * x4 (ix2 e j2) : EReal) + ((∑ c, bX x0 r c * x3 (ix2 c j3)) * ∑ e, bW x0 x1 x2 r e * x4 (ix2 e j3) : EReal)) + ((((∑ c, bX x0 r c * x3 (ix2 c j4)) * ∑ e, bW x0 x1 x2 r e * x4 (ix2 e j4) : EReal) + ((∑ c, bX x0 r c * x3 (ix2 c j5)) * ∑ e, bW x0 x1 x2 r e * x4 (ix2 e j5) : EReal)) + (((∑ c, bX x0 r c * x3 (ix2 c j6)) * ∑ e, bW x0 x1 x2 r e * x4 (ix2 e j6) : EReal) + ((∑ c, bX x0 r c * x3 (ix2 c j7)) * ∑ e, bW x0 x1 x2 r e * x4 (ix2 e j7) : EReal)))
      = proj (bW x0 x1 x2 r) (fun e c d => x3 (ix2 c (J e d))) (bX x0 r) d := by
  subst h0 h1 h2 h3 h4 h5 h6 h7
  refine (tree_eq fun e => (∑ c, bX x0 r c * x3 (ix2 c (J e d))) * ∑ e', bW x0 x1 x2 r e' * x4 (ix2 e' (J e d))).trans ?_
  unfold proj
  refine Finset.sum_congr rfl fun e _ => ?_
  have hw : (∑ e', bW x0 x1 x2 r e' * x4 (ix2 e' (J e d))) = bW x0 x1 x2 r e := by
    refine Eq.trans (Finset.sum_congr rfl fun e' _ => ?_) (sum_onehot (bW x0 x1 x2 r) e)
    rw [hB, hJ]
    exact congrArg _ (if_congr (by rw [Fin.ext_iff]; exact eq_comm) rfl rfl)
  rw [hw, mul_comm]
  exact congrArg _ (Finset.sum_congr rfl fun c _ => mul_comm _ _)

theorem out0_5_at (hB : ∀ (e : Fin 8) (j : Fin 1536), x4 (ix2 e j) = if (j.val / 64) % 8 = e.val then (1 : EReal) else 0)
    (r : Fin 512) (d : Fin 64) : out0_5 x0 x1 x2 x3 x4 (ix2 r d)
      = proj (bW x0 x1 x2 r) (fun e c d => x3 (ix2 c ⟨e.val * 64 + d.val, by omega⟩)) (bX x0 r) d := by
  unfold out0_5
  rw [View.canon_unit_zero hz2]
  simp only [View.ld_unit_zero (S := S8x1536) hz2]
  pointwise [k0_pay12, pay27_at, pay11_at]
  refine tree_proj x0 x1 x2 x3 x4 hB r d (fun e d => ⟨e.val * 64 + d.val, by omega⟩) (fun e d => ?_) _ _ _ _ _ _ _ _ ?_ ?_ ?_ ?_ ?_ ?_ ?_ ?_
  · dsimp only; omega
  all_goals exact Fin.ext (by simp; try omega)

theorem out0_6_at (hB : ∀ (e : Fin 8) (j : Fin 1536), x4 (ix2 e j) = if (j.val / 64) % 8 = e.val then (1 : EReal) else 0)
    (r : Fin 512) (d : Fin 64) : out0_6 x0 x1 x2 x3 x4 (ix2 r d)
      = proj (bW x0 x1 x2 r) (fun e c d => x3 (ix2 c ⟨512 + (e.val * 64 + d.val), by omega⟩)) (bX x0 r) d := by
  unfold out0_6
  rw [View.canon_unit_zero hz2]
  simp only [View.ld_unit_zero (S := S8x1536) hz2]
  pointwise [k0_pay1, k0_pay13, k0_pay14, k0_pay15, k0_pay16, k0_pay17, k0_pay18, k0_pay19, pay27_at, pay11_at, pay28_at]
  refine tree_proj x0 x1 x2 x3 x4 hB r d (fun e d => ⟨512 + (e.val * 64 + d.val), by omega⟩) (fun e d => ?_) _ _ _ _ _ _ _ _ ?_ ?_ ?_ ?_ ?_ ?_ ?_ ?_
  · dsimp only; omega
  all_goals exact Fin.ext (by simp; try omega)

theorem out0_7_at (hB : ∀ (e : Fin 8) (j : Fin 1536), x4 (ix2 e j) = if (j.val / 64) % 8 = e.val then (1 : EReal) else 0)
    (r : Fin 512) (d : Fin 64) : out0_7 x0 x1 x2 x3 x4 (ix2 r d)
      = proj (bW x0 x1 x2 r) (fun e c d => x3 (ix2 c ⟨1024 + (e.val * 64 + d.val), by omega⟩)) (bX x0 r) d := by
  unfold out0_7
  rw [View.canon_unit_zero hz2]
  pointwise [k0_pay2, pay27_at, pay28_at]
  refine tree_proj x0 x1 x2 x3 x4 hB r d (fun e d => ⟨1024 + (e.val * 64 + d.val), by omega⟩) (fun e d => ?_) _ _ _ _ _ _ _ _ ?_ ?_ ?_ ?_ ?_ ?_ ?_ ?_
  · dsimp only; omega
  all_goals exact Fin.ext (by simp; try omega)

end Cert.KernelIdeal.Val
-- ==== Proof.StageA.lean ====
/- What the first call leaves in its four result arrays: the projected rows and the gate weights of every token. -/
module
public import proofs.«01_k».proof.Proof.HostIn
public import proofs.«01_k».proof.Proof.BlockProj
@[expose] public section
set_option maxRecDepth 16384

noncomputable section
namespace Cert.KernelIdeal.Val
open Idealize.ShloMosaic Idealize.ShloMosaic.TcCoe Idealize.ShloMosaic.Tactic Idealize.SL Idealize.SL.Sem
open Idealize.ShloMosaic.Pipeline (Dat)
open Cert.KernelIdeal Cert.KernelIdeal.Gen Cert.Moe

variable (m : (ℓ : Loc nD τ sig) → Buf (Elt Ideal) ℓ) (ρ : Dev nD → PrngReg) (c : Dev nD)

/-- The kernel's arguments, entry by entry. -/
abbrev aX (t : Fin 8192) (k : Fin 1024) : EReal := (m ((c : Thread nD τ).loc main_arg0) : FVec Ideal S4x2048x1024 .f32) (ix3 ⟨t.val / 2048, by omega⟩ ⟨t.val % 2048, by omega⟩ k)
abbrev aSim (k : Fin 1024) (e : Fin 8) : EReal := (m ((c : Thread nD τ).loc main_arg1) : FVec Ideal S1024x8 .f32) (ix2 k e)
abbrev aG (e : Fin 8) : EReal := (m ((c : Thread nD τ).loc main_arg2) : FVec Ideal S8 .f32) (ix1 e)
abbrev aQ (e : Fin 8) (k : Fin 1024) (d : Fin 64) : EReal := (m ((c : Thread nD τ).loc main_arg3) : FVec Ideal S8x1024x64 .f32) (ix3 e k d)
abbrev aK (e : Fin 8) (k : Fin 1024) (d : Fin 64) : EReal := (m ((c : Thread nD τ).loc main_arg4) : FVec Ideal S8x1024x64 .f32) (ix3 e k d)
abbrev aV (e : Fin 8) (k : Fin 1024) (d : Fin 64) : EReal := (m ((c : Thread nD τ).loc main_arg5) : FVec Ideal S8x1024x64 .f32) (ix3 e k d)
abbrev aO (e : Fin 8) (d : Fin 64) (k : Fin 1024) : EReal := (m ((c : Thread nD τ).loc main_arg6) : FVec Ideal S8x64x1024 .f32) (ix3 e d k)

/-- The gate weights of token `t`, and its three projections. -/
abbrev aW (t : Fin 8192) (e : Fin 8) : EReal := weight (aX m c t) (aSim m c) (aG m c) e
abbrev qRow (t : Fin 8192) (d : Fin 64) : EReal := proj (aW m c t) (aQ m c) (aX m c t) d
abbrev kRow (t : Fin 8192) (d : Fin 64) : EReal := proj (aW m c t) (aK m c) (aX m c t) d
abbrev vRow (t : Fin 8192) (d : Fin 64) : EReal := proj (aW m c t) (aV m c) (aX m c t) d

/-- Where each window's block sits at grid point `t`. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

theorem row_lt (t : Fin cfg0.N) (r : Fin 512) : t.val * 512 + r.val < 8192 := by
  have h : cfg0.N = 16 := by decide +kernel
  omega

/-- The token at row `r` of the block of grid point `t`. -/
abbrev tok (t : Fin cfg0.N) (r : Fin 512) : Fin 8192 := ⟨t.val * 512 + r.val, row_lt t r⟩

/-- The input blocks at grid point `t`, entry by entry. -/
theorem blk0_0 (t : Fin cfg0.N) (r : Fin 512) (k : Fin 1024) :
    (iblk0 (V1 m ρ) c 0 t : Vec Ideal S512x1024 .f32) (ix2 r k) = aX m c (tok t r) k := by
  refine Eq.trans ?_ (v0_at m ρ c (tok t r) k)
  blk_ext [iblk0, idx0 t]

theorem blk0_1 (t : Fin cfg0.N) (k : Fin 1024) (e : Fin 8) :
    (iblk0 (V1 m ρ) c 1 t : Vec Ideal S1024x8 .f32) (ix2 k e) = aSim m c k e := by
  refine Eq.trans ?_ (congrFun (W1_of m ρ c main_arg1 (by decide)) (ix2 k e))
  blk_ext [iblk0, idx0 t]

theorem blk0_2 (t : Fin cfg0.N) (e : Fin 8) :
    (iblk0 (V1 m ρ) c 2 t : Vec Ideal S1x8 .f32) (ix2 0 e) = aG m c e := by
  refine Eq.trans ?_ (v11_at m ρ c e)
  blk_ext [iblk0, idx0 t]

theorem blk0_3 (t : Fin cfg0.N) (k : Fin 1024) (j : Fin 1536) :
    (iblk0 (V1 m ρ) c 3 t : Vec Ideal S1024x1536 .bf16) (ix2 k j) = (W1 m ρ c (Proc.devRef .tc main_v8) : FVec Ideal S1024x1536 .bf16) (ix2 k j) := by
  blk_ext [iblk0, idx0 t]

theorem blk0_4 (t : Fin cfg0.N) (e : Fin 8) (j : Fin 1536) :
    (iblk0 (V1 m ρ) c 4 t : Vec Ideal S8x1536 .f32) (ix2 e j) = if (j.val / 64) % 8 = e.val then (1 : EReal) else 0 := by
  refine Eq.trans ?_ (cst_at m ρ c e j)
  blk_ext [iblk0, idx0 t]

/-- The gate weights that the block's operands give a row. -/
theorem bW_eq (t : Fin cfg0.N) (r : Fin 512) :
    bW (iblk0 (V1 m ρ) c 0 t) (iblk0 (V1 m ρ) c 1 t) (iblk0 (V1 m ρ) c 2 t) r = aW m c (tok t r) := by
  funext e
  unfold bW aW
  rw [show bX (iblk0 (V1 m ρ) c 0 t) r = aX m c (tok t r) from funext fun k => blk0_0 m ρ c t r k,
    show bSim (iblk0 (V1 m ρ) c 1 t) = aSim m c from funext fun k => funext fun e => blk0_1 m ρ c t k e,
    show bG (iblk0 (V1 m ρ) c 2 t) = aG m c from funext fun e => blk0_2 m ρ c t e]

/-- The array of gate weights. -/
def arrW : FVec Ideal S8192x8 .f32 := fun i => aW m c (i 0) (i 1)
/-- The arrays of projected rows. -/
def arrQ : FVec Ideal S8192x64 .bf16 := fun i => qRow m c (i 0) (i 1)
def arrK : FVec Ideal S8192x64 .bf16 := fun i => kRow m c (i 0) (i 1)
def arrV : FVec Ideal S8192x64 .bf16 := fun i => vRow m c (i 0) (i 1)

/-- Where a cell of the block of window 8 lies in its array. -/
theorem emb0_8 (t : Fin cfg0.N) (r : Fin 512) (d : Fin 8) :
    ((win0_8.blk t).view.emb (ix2 r d : S512x8.Idx) : S8192x8.Idx) = ix2 (tok t r) d := by
  blk_ext [idx0 t]

/-- What the first call leaves in its array of window 8. -/
theorem final_w : ((dat0 (V1 m ρ) c).arrAt 8 cfg0.N : FVec Ideal S8192x8 .f32) = arrW m c := by
  refine (dat0 (V1 m ρ) c).arrAt_eq_of_covers 8 _ (by decide +kernel) fun t _ y => ?_
  blk_simp
  rw [after0_8]
  obtain ⟨r, d, rfl⟩ : ∃ (r : Fin 512) (d : Fin 8), y = (ix2 r d : S512x8.Idx) := ⟨y 0, y 1, by blk_ext⟩
  refine Eq.trans ?_ (congrArg (arrW m c) (emb0_8 t r d)).symm
  refine (out0_8_at _ _ _ _ _ r d).trans ?_
  exact congrFun (bW_eq m ρ c t r) d

/-- Where a cell of the block of window 5 lies in its array. -/
theorem emb0_5 (t : Fin cfg0.N) (r : Fin 512) (d : Fin 64) :
    ((win0_5.blk t).view.emb (ix2 r d : S512x64.Idx) : S8192x64.Idx) = ix2 (tok t r) d := by
  blk_ext [idx0 t]

/-- What the first call leaves in its array of window 5. -/
theorem final_q : ((dat0 (V1 m ρ) c).arrAt 5 cfg0.N : FVec Ideal S8192x64 .bf16) = arrQ m c := by
  refine (dat0 (V1 m ρ) c).arrAt_eq_of_covers 5 _ (by decide +kernel) fun t _ y => ?_
  blk_simp
  rw [after0_5]
  obtain ⟨r, d, rfl⟩ : ∃ (r : Fin 512) (d : Fin 64), y = (ix2 r d : S512x64.Idx) := ⟨y 0, y 1, by blk_ext⟩
  refine Eq.trans ?_ (congrArg (arrQ m c) (emb0_5 t r d)).symm
  refine (out0_5_at _ _ _ _ _ (blk0_4 m ρ c t) r d).trans ?_
  rw [bW_eq, show bX (iblk0 (V1 m ρ) c 0 t) r = aX m c (tok t r) from funext fun k => blk0_0 m ρ c t r k]
  exact congrArg (fun P => proj (aW m c (tok t r)) P (aX m c (tok t r)) d)
    (funext fun e => funext fun k => funext fun d => (blk0_3 m ρ c t k ⟨e.val * 64 + d.val, by omega⟩).trans (v8_at3 m ρ c e k d))

/-- Where a cell of the block of window 6 lies in its array. -/
theorem emb0_6 (t : Fin cfg0.N) (r : Fin 512) (d : Fin 64) :
    ((win0_6.blk t).view.emb (ix2 r d : S512x64.Idx) : S8192x64.Idx) = ix2 (tok t r) d := by
  blk_ext [idx0 t]

/-- What the first call leaves in its array of window 6. -/
theorem final_k : ((dat0 (V1 m ρ) c).arrAt 6 cfg0.N : FVec Ideal S8192x64 .bf16) = arrK m c := by
  refine (dat0 (V1 m ρ) c).arrAt_eq_of_covers 6 _ (by decide +kernel) fun t _ y => ?_
  blk_simp
  rw [after0_6]
  obtain ⟨r, d, rfl⟩ : ∃ (r : Fin 512) (d : Fin 64), y = (ix2 r d : S512x64.Idx) := ⟨y 0, y 1, by blk_ext⟩
  refine Eq.trans ?_ (congrArg (arrK m c) (emb0_6 t r d)).symm
  refine (out0_6_at _ _ _ _ _ (blk0_4 m ρ c t) r d).trans ?_
  rw [bW_eq, show bX (iblk0 (V1 m ρ) c 0 t) r = aX m c (tok t r) from funext fun k => blk0_0 m ρ c t r k]
  exact congrArg (fun P => proj (aW m c (tok t r)) P (aX m c (tok t r)) d)
    (funext fun e => funext fun k => funext fun d => (blk0_3 m ρ c t k ⟨512 + (e.val * 64 + d.val), by omega⟩).trans (v8_at4 m ρ c e k d))

/-- Where a cell of the block of window 7 lies in its array. -/
theorem emb0_7 (t : Fin cfg0.N) (r : Fin 512) (d : Fin 64) :
    ((win0_7.blk t).view.emb (ix2 r d : S512x64.Idx) : S8192x64.Idx) = ix2 (tok t r) d := by
  blk_ext [idx0 t]

/-- What the first call leaves in its array of window 7. -/
theorem final_v : ((dat0 (V1 m ρ) c).arrAt 7 cfg0.N : FVec Ideal S8192x64 .bf16) = arrV m c := by
  refine (dat0 (V1 m ρ) c).arrAt_eq_of_covers 7 _ (by decide +kernel) fun t _ y => ?_
  blk_simp
  rw [after0_7]
  obtain ⟨r, d, rfl⟩ : ∃ (r : Fin 512) (d : Fin 64), y = (ix2 r d : S512x64.Idx) := ⟨y 0, y 1, by blk_ext⟩
  refine Eq.trans ?_ (congrArg (arrV m c) (emb0_7 t r d)).symm
  refine (out0_7_at _ _ _ _ _ (blk0_4 m ρ c t) r d).trans ?_
  rw [bW_eq, show bX (iblk0 (V1 m ρ) c 0 t) r = aX m c (tok t r) from funext fun k => blk0_0 m ρ c t r k]
  exact congrArg (fun P => proj (aW m c (tok t r)) P (aX m c (tok t r)) d)
    (funext fun e => funext fun k => funext fun d => (blk0_3 m ρ c t k ⟨1024 + (e.val * 64 + d.val), by omega⟩).trans (v8_at5 m ρ c e k d))

end Cert.KernelIdeal.Val
-- ==== Proof.HostMid.lean ====
/- What the second call's operands hold: the first call's results by batch, and the output matrices. -/
module
public import proofs.«01_k».proof.Proof.StageA
@[expose] public section
set_option maxRecDepth 16384

noncomputable section
namespace Cert.KernelIdeal.Val
open Idealize.ShloMosaic Idealize.ShloMosaic.TcCoe Idealize.ShloMosaic.Tactic Idealize.SL Idealize.SL.Sem
open Cert.KernelIdeal Cert.KernelIdeal.Gen Cert.Moe

variable (m : (ℓ : Loc nD τ sig) → Buf (Elt Ideal) ℓ) (ρ : Dev nD → PrngReg) (c : Dev nD)

/-- The queries, by batch. -/
theorem v14_at (b : Fin 4) (t : Fin 2048) (d : Fin 64) :
    (W3 m ρ c (Proc.devRef .tc main_v14) : FVec Ideal S4x2048x64 .bf16) (ix3 b t d) = qRow m c (row b t) d := by
  have h : (W2 m ρ c (Proc.devRef .tc main_v13_0) : FVec Ideal S8192x64 .bf16) = arrQ m c := (W2_arr m ρ c 5).trans (final_q m ρ c)
  refine Eq.trans ?_ (congrFun h (ix2 (row b t) d))
  unfold W3
  entry_read
  pointwise
  rfl

/-- The keys, by batch. -/
theorem v15_at (b : Fin 4) (t : Fin 2048) (d : Fin 64) :
    (W3 m ρ c (Proc.devRef .tc main_v15) : FVec Ideal S4x2048x64 .bf16) (ix3 b t d) = kRow m c (row b t) d := by
  have h : (W2 m ρ c (Proc.devRef .tc main_v13_1) : FVec Ideal S8192x64 .bf16) = arrK m c := (W2_arr m ρ c 6).trans (final_k m ρ c)
  refine Eq.trans ?_ (congrFun h (ix2 (row b t) d))
  unfold W3
  entry_read
  pointwise
  rfl

/-- The values, by batch. -/
theorem v16_at (b : Fin 4) (t : Fin 2048) (d : Fin 64) :
    (W3 m ρ c (Proc.devRef .tc main_v16) : FVec Ideal S4x2048x64 .bf16) (ix3 b t d) = vRow m c (row b t) d := by
  have h : (W2 m ρ c (Proc.devRef .tc main_v13_2) : FVec Ideal S8192x64 .bf16) = arrV m c := (W2_arr m ρ c 7).trans (final_v m ρ c)
  refine Eq.trans ?_ (congrFun h (ix2 (row b t) d))
  unfold W3
  entry_read
  pointwise
  rfl

/-- The gate weights, by batch. -/
theorem v17_at (b : Fin 4) (t : Fin 2048) (d : Fin 8) :
    (W3 m ρ c (Proc.devRef .tc main_v17) : FVec Ideal S4x2048x8 .f32) (ix3 b t d) = aW m c (row b t) d := by
  have h : (W2 m ρ c (Proc.devRef .tc main_v13_3) : FVec Ideal S8192x8 .f32) = arrW m c := (W2_arr m ρ c 8).trans (final_w m ρ c)
  refine Eq.trans ?_ (congrFun h (ix2 (row b t) d))
  unfold W3
  entry_read
  pointwise
  rfl

/-- The output matrices, one under the other. -/
theorem oc_at (e : Fin 8) (d : Fin 64) (k : Fin 1024) :
    (W3 m ρ c (Proc.devRef .tc main_v10) : FVec Ideal S512x1024 .bf16) (ix2 ⟨e.val * 64 + d.val, by omega⟩ k) = aO m c e d k := by
  have h : W3 m ρ c (Proc.devRef .tc main_v10) = W1 m ρ c (Proc.devRef .tc main_v10) :=
    (W3_of m ρ c main_v10 (by decide)).trans (W2_of_ne m ρ c main_v10 (by decide))
  exact (congrFun h _).trans (v10_at m ρ c e d k)

/-- The one-hot columns. -/
theorem rep_at (e : Fin 8) (j : Fin 512) :
    (W3 m ρ c (Proc.devRef .tc main_v12) : FVec Ideal S8x512 .f32) (ix2 e j) = if j.val / 64 = e.val then (1 : EReal) else 0 := by
  have h : W3 m ρ c (Proc.devRef .tc main_v12) = W1 m ρ c (Proc.devRef .tc main_v12) :=
    (W3_of m ρ c main_v12 (by decide)).trans (W2_of_ne m ρ c main_v12 (by decide))
  exact (congrFun h _).trans (v12_at m ρ c e j)

end Cert.KernelIdeal.Val
-- ==== Proof.BlockStep.lean ====
/- What one trip of the second call's loop computes, row by row. -/
module
public import proofs.«01_k».proof.Proof.BlockGate
@[expose] public section
set_option maxRecDepth 16384

noncomputable section
namespace Cert.KernelIdeal.Val
open Idealize.ShloMosaic Idealize.ShloMosaic.TcCoe Idealize.SL.Sem Cert.KernelIdeal Cert.KernelIdeal.Gen
open Cert.Moe

variable (i : grid1.Coords) (v0 : Vec Ideal S1x512x64 .bf16) (k : Fin (k1_t1_loop i).trips) (a10 a11 : FVec Ideal S512x1 .f32)
  (a12 : FVec Ideal S512x64 .f32) (v54 v75 : Vec Ideal S1x1024x64 .bf16)

/-- The loop makes one trip for the first two query blocks of a batch, two for the others. -/
theorem trips_eq : ∀ i : grid1.Coords, (k1_t1_loop i).trips = if (i 1).val < 2 then 1 else 2 := by decide +kernel

/-- The remainder loop makes none. -/
theorem trips_rest : ∀ i : grid1.Coords, (k1_t2_loop i).trips = 0 := by decide +kernel

theorem trip_lt : k.val < 2 := by
  have h := trips_eq i
  have := k.isLt
  split at h <;> omega

theorem qi_lt : (i 1).val < 4 := (i 1).isLt

/-- The counter of trip `k`. -/
theorem counter_eq : Scf.iv 0#32 1#32 k.val = BitVec.ofNat 32 k.val := by
  have h := trip_lt i k
  apply BitVec.eq_of_toNat_eq
  simp only [Scf.iv, BitVec.toNat_add, BitVec.toNat_mul, BitVec.toNat_ofNat]
  omega

/-- The masked scores of a row against the keys of one chunk. -/
theorem scores_at (r : Fin 512) (s : Fin 1024) : k1_pay7 i v0 k v54 (ix2 r s)
    = if k.val * 1024 + s.val ≤ (i 1).val * 512 + r.val then score (fun d => v0 (ix3 0 r d)) (fun d => v54 (ix3 0 s d)) else ⊥ := by
  have hk := trip_lt i k
  have hq := qi_lt i
  pointwise [k1_pay7, k1_pay2, k1_pay3]
  rw [counter_eq]
  unfold Scalar.muli
  rw [show (1024#32 : BitVec 32) = BitVec.ofNat 32 1024 from rfl, show (512#32 : BitVec 32) = BitVec.ofNat 32 512 from rfl,
    WordCmp.muli_ofNat, WordCmp.muli_ofNat, WordCmp.addi_ofNat, WordCmp.addi_ofNat,
    WordCmp.cmpi_sle_ofNat (by omega) (by omega)]
  by_cases h : k.val * 1024 + s.val ≤ (i 1).val * 512 + r.val
  · rw [if_pos h, decide_eq_true h]; rfl
  · rw [if_neg h, decide_eq_false h]; rfl

theorem pay8_at' (r : Fin 512) : k1_pay8 i v0 k a10 v54 (ix2 r 0)
    = max (a10 (ix2 r 0)) (Finset.univ.fold max ⊥ fun s => k1_pay7 i v0 k v54 (ix2 r s)) := by
  pointwise [k1_pay8]
  rw [ninf_eq]

theorem pay9_at' (r : Fin 512) : k1_pay9 i v0 k a10 v54 (ix2 r 0)
    = Ideal.exp (a10 (ix2 r 0) - k1_pay8 i v0 k a10 v54 (ix2 r 0)) := by
  pointwise [k1_pay9]

theorem pay10_at' (r : Fin 512) (s : Fin 1024) : k1_pay10 i v0 k a10 v54 (ix2 r s)
    = Ideal.exp (k1_pay7 i v0 k v54 (ix2 r s) - k1_pay8 i v0 k a10 v54 (ix2 r 0)) := by
  pointwise [k1_pay10]

theorem pay11_at' (r : Fin 512) (d : Fin 64) : k1_pay11 i v0 k a10 a12 v54 v75 (ix2 r d)
    = a12 (ix2 r d) * k1_pay9 i v0 k a10 v54 (ix2 r 0) + ∑ s, k1_pay10 i v0 k a10 v54 (ix2 r s) * v75 (ix3 0 s d) := by
  pointwise [k1_pay11]

theorem pay12_at' (r : Fin 512) : k1_pay12 i v0 k a10 a11 v54 (ix2 r 0)
    = a11 (ix2 r 0) * k1_pay9 i v0 k a10 v54 (ix2 r 0) + ∑ s, k1_pay10 i v0 k a10 v54 (ix2 r s) := by
  pointwise [k1_pay12]

/-- One trip, at a row and a column: the running maximum and the two sums make one step. -/
theorem trip_at (r : Fin 512) (d : Fin 64) :
    (⟨k1_pay8 i v0 k a10 v54 (ix2 r 0), k1_pay12 i v0 k a10 a11 v54 (ix2 r 0), k1_pay11 i v0 k a10 a12 v54 v75 (ix2 r d)⟩ : Run)
      = Run.step (fun s => k1_pay7 i v0 k v54 (ix2 r s)) (fun s => v75 (ix3 0 s d)) ⟨a10 (ix2 r 0), a11 (ix2 r 0), a12 (ix2 r d)⟩ := by
  rw [pay11_at', pay12_at', pay9_at']
  simp only [pay10_at', pay8_at']
  rfl

end Cert.KernelIdeal.Val
-- ==== Proof.BlockLoop.lean ====
/- The second call's block: its loop's trips and what it stores. -/
module
public import proofs.«01_k».proof.Proof.BlockStep
public import proofs.«01_k».proof.Proof.BlockProj
@[expose] public section
set_option maxRecDepth 16384

noncomputable section
namespace Cert.KernelIdeal.Val
open Idealize.ShloMosaic Idealize.ShloMosaic.TcCoe Idealize.SL.Sem Cert.KernelIdeal Cert.KernelIdeal.Gen
open Cert.Moe

variable (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S1x512x8 .f32) (harg5 : arg5.IsWhole) (arg6 : Memref sig .tc .vmem S512x1024 .bf16) (harg6 : arg6.IsWhole) (arg7 : Memref sig .tc .vmem S8x512 .f32) (harg7 : arg7.IsWhole) (arg8 : Memref sig .tc .vmem S1x512x1024 .f32) (harg8 : arg8.IsWhole)
  (x0 : Vec Ideal S1x512x64 .bf16) (x1 : Vec Ideal S1x2048x64 .bf16) (x2 : Vec Ideal S1x2048x64 .bf16) (x3 : Vec Ideal S1x512x8 .f32) (x4 : Vec Ideal S512x1024 .bf16) (x5 : Vec Ideal S8x512 .f32)

theorem hz3 : (![0, 0, 0] : Fin 3 → Nat) = fun _ => 0 := by decide

/-- Where chunk `k` starts. -/
theorem off_eq (k : Fin (k1_t1_loop i).trips) : k1_off1 i k = ![0, k.val * 1024, 0] := by
  have hk := trip_lt i k
  unfold k1_off1
  dsimp only
  rw [counter_eq]
  unfold Scalar.muli Scalar.indexCast
  rw [show (1024#32 : BitVec 32) = BitVec.ofNat 32 1024 from rfl, WordCmp.muli_ofNat]
  rw [BitVec.toNat_ofNat, Nat.mod_eq_of_lt (by omega)]

/-- The rows of chunk `k` of an operand that holds all positions. -/
def chunkOf (x : Vec Ideal S1x2048x64 .bf16) (k : Fin (k1_t1_loop i).trips) : Vec Ideal S1x1024x64 .bf16 :=
  View.ld x (Rect.unit (k1_off1 i k) S1x1024x64.size (k1_off1_inb i k))

theorem chunkOf_at (x : Vec Ideal S1x2048x64 .bf16) (k : Fin (k1_t1_loop i).trips) (s : Fin 1024) (d : Fin 64) :
    chunkOf i x k (ix3 0 s d) = x (ix3 0 ⟨k.val * 1024 + s.val, by have := trip_lt i k; omega⟩ d) := by
  unfold chunkOf
  refine View.ld_unit_apply_of x _ _ _ _ _ fun a => ?_
  refine Eq.trans ?_ (congrArg₂ (· + ·) (congrFun (off_eq i k) a).symm rfl)
  fin_cases a <;> simp [ix3]

/-- The loop's carried values: running maximum, sum of weights, weighted sum. -/
abbrev Carried : Type := FVec Ideal S512x1 .f32 × FVec Ideal S512x1 .f32 × FVec Ideal S512x64 .f32

/-- What one trip makes of the carried values. -/
def tripOf (k : Fin (k1_t1_loop i).trips) (a : Carried) : Carried :=
  (k1_pay8 i x0 k a.1 (chunkOf i x1 k), k1_pay12 i x0 k a.1 a.2.1 (chunkOf i x1 k), k1_pay11 i x0 k a.1 a.2.2 (chunkOf i x1 k) (chunkOf i x2 k))

theorem trip_eq (k : Fin (k1_t1_loop i).trips) (a : Carried) :
    (trip_k1_t1 Variants.none c none i arg2 harg2 arg3 harg3 arg4 harg4 arg5 harg5 arg6 harg6 arg7 harg7 arg8 harg8 x0 (harg3.unread x1) (harg4.unread x2) k).1 a = tripOf i x0 x1 x2 k a := by
  unfold trip_k1_t1
  dsimp only
  simp only [View.readAt_eq_ld, harg3.read_unread, harg4.read_unread]
  rfl

/-- The carried values after `n` trips. -/
abbrev after (n : Nat) : Carried :=
  st_k1_t1 Variants.none c none i arg2 harg2 arg3 harg3 arg4 harg4 arg5 harg5 arg6 harg6 arg7 harg7 arg8 harg8 x0 (harg3.unread x1) (harg4.unread x2) (k1_pay4 (F := Ideal), k1_pay5 (F := Ideal), k1_pay6 (F := Ideal)) n

theorem after_succ (k : Fin (k1_t1_loop i).trips) :
    after c i arg2 harg2 arg3 harg3 arg4 harg4 arg5 harg5 arg6 harg6 arg7 harg7 arg8 harg8 x0 x1 x2 (k.val + 1) = tripOf i x0 x1 x2 k (after c i arg2 harg2 arg3 harg3 arg4 harg4 arg5 harg5 arg6 harg6 arg7 harg7 arg8 harg8 x0 x1 x2 k.val) := by
  refine (st_k1_t1_succ Variants.none c none i arg2 harg2 arg3 harg3 arg4 harg4 arg5 harg5 arg6 harg6 arg7 harg7 arg8 harg8 x0 (harg3.unread x1) (harg4.unread x2) _ k).trans ?_
  exact trip_eq c i arg2 harg2 arg3 harg3 arg4 harg4 arg5 harg5 arg6 harg6 arg7 harg7 arg8 harg8 x0 x1 x2 k _

theorem part_eq : kernelRun1_A.sl.r c i arg2 harg2 arg3 harg3 arg4 harg4 arg5 harg5 arg6 harg6 arg7 harg7 arg8 harg8 x0 x1 x2
    = k1_pay19 (after c i arg2 harg2 arg3 harg3 arg4 harg4 arg5 harg5 arg6 harg6 arg7 harg7 arg8 harg8 x0 x1 x2 (k1_t1_loop i).trips).2.1 (after c i arg2 harg2 arg3 harg3 arg4 harg4 arg5 harg5 arg6 harg6 arg7 harg7 arg8 harg8 x0 x1 x2 (k1_t1_loop i).trips).2.2 := by
  unfold kernelRun1_A.sl.r
  have h : Scf.trips (k1_t2_loop i).lb (k1_t2_loop i).ub (k1_t2_loop i).st = 0 := trips_rest i
  rw [h]
  simp only [st_k1_t2_zero, View.readAt_eq_ld, harg2.read_unread, View.ld_unit_zero (S := S1x512x64) hz3]

theorem out1_eq : out1_A_6 c i arg2 harg2 arg3 harg3 arg4 harg4 arg5 harg5 arg6 harg6 arg7 harg7 arg8 harg8 x0 x1 x2 x3 x4 x5
    = k1_pay1 (k1_pay19 (after c i arg2 harg2 arg3 harg3 arg4 harg4 arg5 harg5 arg6 harg6 arg7 harg7 arg8 harg8 x0 x1 x2 (k1_t1_loop i).trips).2.1 (after c i arg2 harg2 arg3 harg3 arg4 harg4 arg5 harg5 arg6 harg6 arg7 harg7 arg8 harg8 x0 x1 x2 (k1_t1_loop i).trips).2.2) x3 x5 x4 := by
  unfold out1_A_6
  rw [View.read_writes_eq_canon _ _ _ (cover1_A_6 c i arg2 harg2 arg3 harg3 arg4 harg4 arg5 harg5 arg6 harg6 arg7 harg7 arg8 harg8 x0 x1 x2 x3 x4 x5)]
  unfold kernelRun1_A
  dsimp only
  rw [View.canon_unit_zero hz3, part_eq]
  simp only [View.readAt_eq_ld, harg5.read_unread, harg6.read_unread, harg7.read_unread, View.ld_unit_zero (S := S1x512x8) hz3,
    View.ld_unit_zero (S := S8x512) hz2, View.ld_unit_zero (S := S512x1024) hz2]

end Cert.KernelIdeal.Val
-- ==== Proof.BlockAttn.lean ====
/- The second call's block, read: the loop makes the attention row, the closing product the output row. -/
module
public import proofs.«01_k».proof.Proof.BlockLoop
@[expose] public section
set_option maxRecDepth 16384

noncomputable section
namespace Cert.KernelIdeal.Val
open Idealize.ShloMosaic Idealize.ShloMosaic.TcCoe Idealize.SL.Sem Cert.KernelIdeal Cert.KernelIdeal.Gen
open Cert.Moe

variable (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S1x512x8 .f32) (harg5 : arg5.IsWhole) (arg6 : Memref sig .tc .vmem S512x1024 .bf16) (harg6 : arg6.IsWhole) (arg7 : Memref sig .tc .vmem S8x512 .f32) (harg7 : arg7.IsWhole) (arg8 : Memref sig .tc .vmem S1x512x1024 .f32) (harg8 : arg8.IsWhole)
  (x0 : Vec Ideal S1x512x64 .bf16) (x1 : Vec Ideal S1x2048x64 .bf16) (x2 : Vec Ideal S1x2048x64 .bf16) (x3 : Vec Ideal S1x512x8 .f32) (x4 : Vec Ideal S512x1024 .bf16) (x5 : Vec Ideal S8x512 .f32)

/-- The query row, the keys and the values that the block's operands hold. -/
abbrev bQ (r : Fin 512) (d : Fin 64) : EReal := x0 (ix3 0 r d)
abbrev bKV (x : Vec Ideal S1x2048x64 .bf16) (s : Fin 2048) (d : Fin 64) : EReal := x (ix3 0 s d)

/-- The position in the batch of row `r` of the block. -/
abbrev pos (r : Fin 512) : Fin 2048 := ⟨(i 1).val * 512 + r.val, by have := qi_lt i; omega⟩

/-- The carried values at a row and a column. -/
def runAt (a : Carried) (r : Fin 512) (d : Fin 64) : Run := ⟨a.1 (ix2 r 0), a.2.1 (ix2 r 0), a.2.2 (ix2 r d)⟩

theorem start_at (r : Fin 512) (d : Fin 64) : runAt (after c i arg2 harg2 arg3 harg3 arg4 harg4 arg5 harg5 arg6 harg6 arg7 harg7 arg8 harg8 x0 x1 x2 0) r d = Run.start := by
  have h : after c i arg2 harg2 arg3 harg3 arg4 harg4 arg5 harg5 arg6 harg6 arg7 harg7 arg8 harg8 x0 x1 x2 0 = (k1_pay4 (F := Ideal), k1_pay5 (F := Ideal), k1_pay6 (F := Ideal)) := st_k1_t1_zero ..
  rw [h]
  have h4 : k1_pay4 (F := Ideal) (ix2 r 0) = (⊥ : EReal) := by pointwise [k1_pay4]; rfl
  have h5 : k1_pay5 (F := Ideal) (ix2 r 0) = (0 : EReal) := by pointwise [k1_pay5]
  have h6 : k1_pay6 (F := Ideal) (ix2 r d) = (0 : EReal) := by pointwise [k1_pay6]
  unfold runAt Run.start
  dsimp only
  rw [h4, h5, h6]

/-- One trip is one step over the chunk's masked scores. -/
theorem step_at (k : Fin (k1_t1_loop i).trips) (a : Carried) (r : Fin 512) (d : Fin 64) :
    runAt (tripOf i x0 x1 x2 k a) r d
      = Run.step (fun s : Fin 1024 => causal (pos i r) (bQ x0 r) (bKV x1) ⟨k.val * 1024 + s.val, by have := trip_lt i k; omega⟩)
          (fun s : Fin 1024 => bKV x2 ⟨k.val * 1024 + s.val, by have := trip_lt i k; omega⟩ d) (runAt a r d) := by
  unfold tripOf
  refine (trip_at i x0 k a.1 a.2.1 a.2.2 (chunkOf i x1 k) (chunkOf i x2 k) r d).trans ?_
  refine congrArg₂ (fun S V => Run.step S V (runAt a r d)) (funext fun s => ?_) (funext fun s => ?_)
  · rw [scores_at]
    unfold causal
    simp only [chunkOf_at]
  · exact chunkOf_at i x2 k s d

/-- The finished quotient is the attention of the row. -/
theorem attn_at (r : Fin 512) (d : Fin 64) (hS : ∀ s, causal (pos i r) (bQ x0 r) (bKV x1) s ≠ ⊤)
    (h0 : ∀ s : Fin 2048, s.val = 0 → causal (pos i r) (bQ x0 r) (bKV x1) s ≠ ⊥) :
    k1_pay19 (F := Ideal) (after c i arg2 harg2 arg3 harg3 arg4 harg4 arg5 harg5 arg6 harg6 arg7 harg7 arg8 harg8 x0 x1 x2 (k1_t1_loop i).trips).2.1 (after c i arg2 harg2 arg3 harg3 arg4 harg4 arg5 harg5 arg6 harg6 arg7 harg7 arg8 harg8 x0 x1 x2 (k1_t1_loop i).trips).2.2 (ix2 r d)
      = attend (pos i r) (bQ x0 r) (bKV x1) (bKV x2) d := by
  have hd : k1_pay19 (F := Ideal) (after c i arg2 harg2 arg3 harg3 arg4 harg4 arg5 harg5 arg6 harg6 arg7 harg7 arg8 harg8 x0 x1 x2 (k1_t1_loop i).trips).2.1 (after c i arg2 harg2 arg3 harg3 arg4 harg4 arg5 harg5 arg6 harg6 arg7 harg7 arg8 harg8 x0 x1 x2 (k1_t1_loop i).trips).2.2 (ix2 r d)
      = Ideal.div (runAt (after c i arg2 harg2 arg3 harg3 arg4 harg4 arg5 harg5 arg6 harg6 arg7 harg7 arg8 harg8 x0 x1 x2 (k1_t1_loop i).trips) r d).acc (runAt (after c i arg2 harg2 arg3 harg3 arg4 harg4 arg5 harg5 arg6 harg6 arg7 harg7 arg8 harg8 x0 x1 x2 (k1_t1_loop i).trips) r d).l := by
    unfold runAt
    generalize after c i arg2 harg2 arg3 harg3 arg4 harg4 arg5 harg5 arg6 harg6 arg7 harg7 arg8 harg8 x0 x1 x2 (k1_t1_loop i).trips = a
    pointwise [k1_pay19]
  rw [hd]
  have ht := trips_eq i
  have h1 : runAt (after c i arg2 harg2 arg3 harg3 arg4 harg4 arg5 harg5 arg6 harg6 arg7 harg7 arg8 harg8 x0 x1 x2 1) r d
      = Run.start.step (fun s : Fin 1024 => causal (pos i r) (bQ x0 r) (bKV x1) (Fin.castAdd 1024 s)) (fun s => bKV x2 (Fin.castAdd 1024 s) d) := by
    have hk : 0 < (k1_t1_loop i).trips := by rw [ht]; split <;> omega
    refine (congrArg (runAt · r d) (after_succ c i arg2 harg2 arg3 harg3 arg4 harg4 arg5 harg5 arg6 harg6 arg7 harg7 arg8 harg8 x0 x1 x2 ⟨0, hk⟩)).trans ?_
    refine (step_at i x0 x1 x2 ⟨0, hk⟩ _ r d).trans ?_
    rw [start_at]
    refine congrArg₂ (fun S V => Run.step S V Run.start) (funext fun s => ?_) (funext fun s => ?_)
    · exact congrArg _ (Fin.ext (by simp))
    · exact congrArg (bKV x2 · d) (Fin.ext (by simp))
  have hz : ∃ s : Fin 1024, causal (pos i r) (bQ x0 r) (bKV x1) (Fin.castAdd 1024 s) ≠ ⊥ := ⟨0, h0 _ rfl⟩
  unfold attend
  by_cases hq : (i 1).val < 2
  · rw [if_pos hq] at ht
    rw [ht, h1]
    refine one_chunk (n := 1024) (k := 1024) (causal (pos i r) (bQ x0 r) (bKV x1)) (fun s => bKV x2 s d) hS hz fun s => ?_
    unfold causal
    rw [if_neg]
    simp
    omega
  · rw [if_neg hq] at ht
    have h2 : runAt (after c i arg2 harg2 arg3 harg3 arg4 harg4 arg5 harg5 arg6 harg6 arg7 harg7 arg8 harg8 x0 x1 x2 2) r d
        = (runAt (after c i arg2 harg2 arg3 harg3 arg4 harg4 arg5 harg5 arg6 harg6 arg7 harg7 arg8 harg8 x0 x1 x2 1) r d).step (fun s : Fin 1024 => causal (pos i r) (bQ x0 r) (bKV x1) (Fin.natAdd 1024 s)) (fun s => bKV x2 (Fin.natAdd 1024 s) d) := by
      have hk : 1 < (k1_t1_loop i).trips := by rw [ht]; omega
      refine (congrArg (runAt · r d) (after_succ c i arg2 harg2 arg3 harg3 arg4 harg4 arg5 harg5 arg6 harg6 arg7 harg7 arg8 harg8 x0 x1 x2 ⟨1, hk⟩)).trans ?_
      refine (step_at i x0 x1 x2 ⟨1, hk⟩ _ r d).trans ?_
      refine congrArg₂ (fun S V => Run.step S V (runAt (after c i arg2 harg2 arg3 harg3 arg4 harg4 arg5 harg5 arg6 harg6 arg7 harg7 arg8 harg8 x0 x1 x2 1) r d)) (funext fun s => ?_) (funext fun s => ?_)
      · exact congrArg _ (Fin.ext (by simp [Nat.add_comm]))
      · exact congrArg (bKV x2 · d) (Fin.ext (by simp [Nat.add_comm]))
    rw [ht, h2, h1]
    exact two_pass (n := 1024) (k := 1024) (causal (pos i r) (bQ x0 r) (bKV x1)) (fun s => bKV x2 s d) hS hz

/-- A sum over all columns, group by group. -/
theorem sum_groups (f : Fin 512 → EReal) : ∑ x, f x = ∑ e : Fin 8, ∑ d : Fin 64, f ⟨e.val * 64 + d.val, by omega⟩ := by
  rw [← Fintype.sum_prod_type' (fun (e : Fin 8) (d : Fin 64) => f ⟨e.val * 64 + d.val, by omega⟩),
    ← (finProdFinEquiv (m := 8) (n := 64)).sum_comp]
  refine Finset.sum_congr rfl fun x _ => congrArg f (Fin.ext ?_)
  simp [finProdFinEquiv]
  omega

/-- The closing product at a row and a channel. -/
theorem pay1_at (hR : ∀ (e : Fin 8) (j : Fin 512), x5 (ix2 e j) = if j.val / 64 = e.val then (1 : EReal) else 0)
    (a : FVec Ideal S512x64 .f32) (r : Fin 512) (k : Fin 1024) :
    k1_pay1 a x3 x5 x4 (ix3 0 r k)
      = output (fun e => x3 (ix3 0 r e)) (fun d => a (ix2 r d)) (fun e d k => x4 (ix2 ⟨e.val * 64 + d.val, by omega⟩ k)) k := by
  pointwise [k1_pay1]
  refine (sum_groups _).trans ?_
  unfold output
  refine Finset.sum_congr rfl fun e _ => Finset.sum_congr rfl fun d _ => ?_
  dsimp only
  have hw : (∑ e', x3 (ix3 0 r e') * x5 (ix2 e' ⟨e.val * 64 + d.val, by omega⟩)) = x3 (ix3 0 r e) := by
    refine Eq.trans (Finset.sum_congr rfl fun e' _ => ?_) (sum_onehot (fun e => x3 (ix3 0 r e)) e)
    rw [hR]
    refine congrArg _ (if_congr ?_ rfl rfl)
    rw [Fin.ext_iff]
    dsimp only
    omega
  rw [hw, mul_comm (x3 (ix3 0 r e)) (a (ix2 r d))]
  refine congrArg (fun y => y * x3 (ix3 0 r e) * x4 (ix2 ⟨e.val * 64 + d.val, by omega⟩ k)) ?_
  split_ifs <;> exact congrArg (fun j : Fin 64 => a (ix2 r j)) (Fin.ext (by dsimp only; omega))

end Cert.KernelIdeal.Val
-- ==== Proof.StageB.lean ====
/- What the second call leaves in the result array: the layer's value at every entry. -/
module
public import proofs.«01_k».proof.Proof.HostMid
public import proofs.«01_k».proof.Proof.BlockAttn
public import proofs.«01_k».proof.Proof.Reals
@[expose] public section
set_option maxRecDepth 16384

noncomputable section
namespace Cert.KernelIdeal.Val
open Idealize.ShloMosaic Idealize.ShloMosaic.TcCoe Idealize.ShloMosaic.Tactic Idealize.SL Idealize.SL.Sem
open Idealize.ShloMosaic.Pipeline (Dat)
open Cert.KernelIdeal Cert.KernelIdeal.Gen Cert.Moe

variable (m : (ℓ : Loc nD τ sig) → Buf (Elt Ideal) ℓ) (ρ : Dev nD → PrngReg) (c : Dev nD)

/-- Where each window's block sits at grid point `t`. -/
theorem idx1 : ∀ t : Fin cfg1.N, win1_0.index t = ![(grid1.coords t 0).val, (grid1.coords t 1).val, 0]
    ∧ win1_1.index t = ![(grid1.coords t 0).val, 0, 0] ∧ win1_2.index t = ![(grid1.coords t 0).val, 0, 0]
    ∧ win1_3.index t = ![(grid1.coords t 0).val, (grid1.coords t 1).val, 0]
    ∧ win1_4.index t = ![0, 0] ∧ win1_5.index t = ![0, 0]
    ∧ win1_6.index t = ![(grid1.coords t 0).val, (grid1.coords t 1).val, 0] :=
  (by decide +kernel : ∀ t : Fin grid1.N, _)

theorem batch_lt (i : grid1.Coords) : (i 0).val < 4 := (i 0).isLt

/-- The batch of grid point `t`. -/
abbrev bat (t : Fin cfg1.N) : Fin 4 := ⟨(grid1.coords t 0).val, batch_lt _⟩
/-- The position in the batch of row `r` of the block of grid point `t`. -/
abbrev at1 (t : Fin cfg1.N) (r : Fin 512) : Fin 2048 := pos (grid1.coords t) r

/-- The input blocks at grid point `t`, entry by entry. -/
theorem blk1_0 (t : Fin cfg1.N) (r : Fin 512) (d : Fin 64) :
    (iblk1 (V3 m ρ) c 0 t : Vec Ideal S1x512x64 .bf16) (ix3 0 r d) = qRow m c (row (bat t) (at1 t r)) d := by
  refine Eq.trans ?_ (v14_at m ρ c (bat t) (at1 t r) d)
  blk_ext [iblk1, idx1 t]

theorem blk1_1 (t : Fin cfg1.N) (s : Fin 2048) (d : Fin 64) :
    (iblk1 (V3 m ρ) c 1 t : Vec Ideal S1x2048x64 .bf16) (ix3 0 s d) = kRow m c (row (bat t) s) d := by
  refine Eq.trans ?_ (v15_at m ρ c (bat t) s d)
  blk_ext [iblk1, idx1 t]

theorem blk1_2 (t : Fin cfg1.N) (s : Fin 2048) (d : Fin 64) :
    (iblk1 (V3 m ρ) c 2 t : Vec Ideal S1x2048x64 .bf16) (ix3 0 s d) = vRow m c (row (bat t) s) d := by
  refine Eq.trans ?_ (v16_at m ρ c (bat t) s d)
  blk_ext [iblk1, idx1 t]

theorem blk1_3 (t : Fin cfg1.N) (r : Fin 512) (e : Fin 8) :
    (iblk1 (V3 m ρ) c 3 t : Vec Ideal S1x512x8 .f32) (ix3 0 r e) = aW m c (row (bat t) (at1 t r)) e := by
  refine Eq.trans ?_ (v17_at m ρ c (bat t) (at1 t r) e)
  blk_ext [iblk1, idx1 t]

theorem blk1_4 (t : Fin cfg1.N) (e : Fin 8) (d : Fin 64) (k : Fin 1024) :
    (iblk1 (V3 m ρ) c 4 t : Vec Ideal S512x1024 .bf16) (ix2 ⟨e.val * 64 + d.val, by omega⟩ k) = aO m c e d k := by
  refine Eq.trans ?_ (oc_at m ρ c e d k)
  blk_ext [iblk1, idx1 t]

theorem blk1_5 (t : Fin cfg1.N) (e : Fin 8) (j : Fin 512) :
    (iblk1 (V3 m ρ) c 5 t : Vec Ideal S8x512 .f32) (ix2 e j) = if j.val / 64 = e.val then (1 : EReal) else 0 := by
  refine Eq.trans ?_ (rep_at m ρ c e j)
  blk_ext [iblk1, idx1 t]

/-- The result array. -/
def arrOut : FVec Ideal S4x2048x1024 .f32 := fun i =>
  layer (aX m c) (aSim m c) (aG m c) (aQ m c) (aK m c) (aV m c) (aO m c) (i 0) (i 1) (i 2)

/-- Where a cell of the block of window 6 lies in its array. -/
theorem emb1_6 (t : Fin cfg1.N) (r : Fin 512) (k : Fin 1024) :
    ((win1_6.blk t).view.emb (ix3 0 r k : S1x512x1024.Idx) : S4x2048x1024.Idx) = ix3 (bat t) (at1 t r) k := by
  blk_ext [idx1 t]

/-- The block that grid point `t` writes, at a row and a channel. -/
theorem outs_at (hX : ∀ t k, IsReal (aX m c t k)) (hQ : ∀ e k d, IsReal (aQ m c e k d)) (hK : ∀ e k d, IsReal (aK m c e k d))
    (t : Fin cfg1.N) (r : Fin 512) (k : Fin 1024) :
    (outsAt1 (V3 m ρ) c t : Vec Ideal S1x512x1024 .f32) (ix3 0 r k)
      = layer (aX m c) (aSim m c) (aG m c) (aQ m c) (aK m c) (aV m c) (aO m c) (bat t) (at1 t r) k := by
  have hq : bQ (iblk1 (V3 m ρ) c 0 t) r = qRow m c (row (bat t) (at1 t r)) := funext fun d => blk1_0 m ρ c t r d
  have hk : bKV (iblk1 (V3 m ρ) c 1 t) = fun s => kRow m c (row (bat t) s) := funext fun s => funext fun d => blk1_1 m ρ c t s d
  have hv : bKV (iblk1 (V3 m ρ) c 2 t) = fun s => vRow m c (row (bat t) s) := funext fun s => funext fun d => blk1_2 m ρ c t s d
  have rq : ∀ d, IsReal (bQ (iblk1 (V3 m ρ) c 0 t) r d) := by
    rw [hq]; exact proj_real _ _ _ (fun e => weight_real _ _ _ e) hQ (fun k => hX _ k)
  have rk : ∀ s d, IsReal (bKV (iblk1 (V3 m ρ) c 1 t) s d) := by
    rw [hk]; exact fun s => proj_real _ _ _ (fun e => weight_real _ _ _ e) hK (fun k => hX _ k)
  unfold outsAt1
  rw [out1_eq]
  refine (pay1_at _ _ _ (blk1_5 m ρ c t) _ r k).trans ?_
  unfold layer
  have ho : (fun (e : Fin 8) (d : Fin 64) (k : Fin 1024) => (iblk1 (V3 m ρ) c 4 t : Vec Ideal S512x1024 .bf16) (ix2 ⟨e.val * 64 + d.val, by omega⟩ k)) = aO m c :=
    funext fun e => funext fun d => funext fun k => blk1_4 m ρ c t e d k
  have hw : (fun e => (iblk1 (V3 m ρ) c 3 t : Vec Ideal S1x512x8 .f32) (ix3 0 r e)) = aW m c (row (bat t) (at1 t r)) := funext fun e => blk1_3 m ρ c t r e
  rw [ho, hw]
  refine congrArg (fun a => output (aW m c (row (bat t) (at1 t r))) a (aO m c) k) (funext fun d => ?_)
  refine (attn_at c (grid1.coords t) _ _ _ _ _ _ _ _ _ _ _ _ _ _ _ _ _ r d (causal_ne_top _ _ _ rq rk) (causal_zero_ne_bot _ _ _ rq rk)).trans ?_
  rw [hq, hk, hv]

/-- What the second call leaves in the result array. -/
theorem final_out (hX : ∀ t k, IsReal (aX m c t k)) (hQ : ∀ e k d, IsReal (aQ m c e k d)) (hK : ∀ e k d, IsReal (aK m c e k d)) :
    ((dat1 (V3 m ρ) c).arrAt 6 cfg1.N : FVec Ideal S4x2048x1024 .f32) = arrOut m c := by
  refine (dat1 (V3 m ρ) c).arrAt_eq_of_covers 6 _ (by decide +kernel) fun t _ y => ?_
  blk_simp
  rw [after1_6]
  obtain ⟨r, k, rfl⟩ : ∃ (r : Fin 512) (k : Fin 1024), y = (ix3 0 r k : S1x512x1024.Idx) := ⟨y 1, y 2, by blk_ext⟩
  refine Eq.trans ?_ (congrArg (arrOut m c) (emb1_6 t r k)).symm
  exact outs_at m ρ c hX hQ hK t r k

/-- The result of the kernel, on real hidden states and real query and key projections. -/
theorem value (hX : ∀ t k, IsReal (aX m c t k)) (hQ : ∀ e k d, IsReal (aQ m c e k d)) (hK : ∀ e k d, IsReal (aK m c e k d)) :
    (W4 m ρ c (Proc.devRef .tc main_v18) : FVec Ideal S4x2048x1024 .f32) = arrOut m c :=
  (W4_arr m ρ c 6).trans (final_out m ρ c hX hQ hK)

end Cert.KernelIdeal.Val
-- ==== Proof.RefGate.lean ====
module
public import proofs.«01_k».proof.Proof.Gen.ReferenceIdeal.Run
public import proofs.«01_k».proof.Proof.Words
@[expose] public section
set_option maxRecDepth 16384

/-! # What the reference computes: the gate weights at a token -/

noncomputable section
namespace Cert.ReferenceIdeal.Val
open Idealize.ShloMosaic Idealize.ShloMosaic.TcCoe Idealize.SL.Sem
open Cert.ReferenceIdeal Cert.ReferenceIdeal.Value Cert.ReferenceIdeal.Gen
open Cert.Moe

variable (V0 : Valuation τ sig (Elt Ideal))

/-- The hidden states as rows. -/
abbrev X (t : Fin 8192) (k : Fin 1024) : EReal := V0 (Proc.devRef .tc main_arg0) (ix3 ⟨t.val / 2048, by omega⟩ ⟨t.val % 2048, by omega⟩ k)
/-- The similarity columns. -/
abbrev Sim (k : Fin 1024) (e : Fin 8) : EReal := V0 (Proc.devRef .tc main_arg1) (ix2 k e)
/-- The gates. -/
abbrev G (e : Fin 8) : EReal := V0 (Proc.devRef .tc main_arg2) (ix1 e)

theorem v0_at (t : Fin 8192) (k : Fin 1024) : res_main_v0 V0 (ix2 t k) = X V0 t k := by
  pointwise [res_main_v0]

/-- The scores of a token. -/
abbrev L (t : Fin 8192) : Fin 8 → EReal := logit (X V0 t) (Sim V0) (G V0)
/-- The fallback experts of a token. -/
abbrev FB (t : Fin 8192) : Fin 8 → EReal := pairMask (top0 (L V0 t)) (top1 (L V0 t))

theorem v20_at (t : Fin 8192) (e : Fin 8) : res_main_v20 V0 (ix2 t e) = L V0 t e := by
  pointwise [res_main_v20, v0_at]
  rfl

theorem v21_at (t : Fin 8192) (e : Fin 8) : res_main_v21 V0 (ix2 t e) = max (L V0 t e) 0 := by
  pointwise [res_main_v21, v20_at]

theorem v24_at (t : Fin 8192) (e : Fin 8) : res_main_v24 V0 (ix2 t e) = active (L V0 t) e := by
  pointwise [res_main_v24, v21_at]
  rw [uitofp_ofBool]
  simp only [decide_eq_true_eq]
  rfl

/-- The largest of a row, as the reference folds it. -/
theorem rowMax_at (x : FVec Ideal S8192x8 .f32) (t : Fin 8192) :
    Finset.fold max (Ideal.ofBits .f32 4286578688#32) x {i | reducesTo_S8192x8_S8192_d1.drop i = ix1 t}
      = (Finset.univ : Finset (Fin 8)).fold max ⊥ (fun e => x (ix2 t e)) := by
  rw [ninf_eq]
  exact Shape.ReducesTo.fold_fiber_r2_a1 reducesTo_S8192x8_S8192_d1 (ix1 t) max ⊥ x

/-- Position `k` of the row through an index of token `t`. -/
theorem along_at (y : S8192x8.Idx) (t : Fin 8192) (hy : (y 0).val = t.val) (h : 1 < 2) (k : Fin 8) :
    Shape.Idx.along (s := S8192x8) y ⟨1, h⟩ k = ix2 t k := by
  funext a
  unfold Shape.Idx.along
  match a with
  | ⟨0, _⟩ => exact (Function.update_of_ne (Fin.ne_of_val_ne (by show (0 : ℕ) ≠ 1; decide)) _ _).trans (Fin.ext hy)
  | ⟨1, _⟩ => exact Function.update_self _ _ _

theorem topK_at (x : FVec Ideal S8192x8 .f32) (t : Fin 8192) (j : Fin 2) :
    (Host.topK S8192x2 1 (FloatOps.cmpfTotal .gt) x sliceFits_S8192x8_S8192x2).2 (ix2 t j)
      = BitVec.ofNat 32 (if j = 0 then top0 (fun e => x (ix2 t e)) else top1 (fun e => x (ix2 t e))).val := by
  have hR : (fun k k' : Fin 8 => (FloatOps.cmpfTotal (F := Ideal) (φ := .f32) .gt (x (ix2 t k)) (x (ix2 t k'))) == 1#1)
      = larger fun e => x (ix2 t e) := by
    funext k k'
    show (BitVec.ofBool (decide (x (ix2 t k') < x (ix2 t k))) == 1#1) = decide _
    by_cases h : x (ix2 t k') < x (ix2 t k) <;> simp [h]
  have hj : (if j = 0 then top0 (fun e => x (ix2 t e)) else top1 (fun e => x (ix2 t e)))
      = sortedFrom (larger fun e => x (ix2 t e)) ⟨0 + j.val, by omega⟩ := by
    match j with
    | 0 => rfl
    | 1 => rfl
  have key : ∀ y : S8192x8.Idx, (y 0).val = t.val → ∀ n : Fin 8,
      iotaInDim S8192x8 32 ⟨1, Nat.one_lt_two⟩ (Shape.Idx.along (s := S8192x8) y ⟨1, Nat.one_lt_two⟩ (sortedFrom (fun k k' : Fin 8 =>
        (FloatOps.cmpfTotal (F := Ideal) (φ := .f32) .gt (x (Shape.Idx.along (s := S8192x8) y ⟨1, Nat.one_lt_two⟩ k))
          (x (Shape.Idx.along (s := S8192x8) y ⟨1, Nat.one_lt_two⟩ k'))) == 1#1) n))
        = BitVec.ofNat 32 (sortedFrom (fun k k' : Fin 8 =>
            (FloatOps.cmpfTotal (F := Ideal) (φ := .f32) .gt (x (ix2 t k)) (x (ix2 t k'))) == 1#1) n).val := by
    intro y hy n
    simp only [along_at y t hy]
    rfl
  rw [hj, ← hR]
  unfold Host.topK Host.sort2
  dsimp only
  simp only [show 1 < 2 from by decide, dite_true]
  unfold extractStridedSlice
  dsimp only
  exact key _ (Nat.zero_add _) _

theorem v31_at (t : Fin 8192) (e : Fin 8) : res_main_v31 V0 (ix2 t e) = maskOf (L V0 t) (FB V0 t) e := by
  have hx : (fun e => res_main_v20 V0 (ix2 t e)) = L V0 t := funext fun e => v20_at V0 t e
  pointwise [res_main_v31, v24_at, topK_at]
  unfold maskOf
  refine if_congr Iff.rfl ?_ rfl
  refine Eq.trans (α := EReal) ?_ (pairMask_sum (top0 (L V0 t)) (top1 (L V0 t)) e (isTopTwo (L V0 t)).2.1)
  refine Finset.sum_congr rfl fun j _ => ?_
  rw [hx, cmpi_eq_fin (by decide), uitofp_ofBool]
  simp only [decide_eq_true_eq]

theorem v34_at (t : Fin 8192) (e : Fin 8) : res_main_v34 V0 (ix2 t e) = shown (L V0 t) (FB V0 t) e := by
  pointwise [res_main_v34, v31_at, v21_at]
  rfl

theorem v46_at (t : Fin 8192) (e : Fin 8) : res_main_v46 V0 (ix2 t e) = weight (X V0 t) (Sim V0) (G V0) e := by
  have hm : (fun e => res_main_v34 V0 (ix2 t e)) = shown (L V0 t) (FB V0 t) := funext fun e => v34_at V0 t e
  pointwise [res_main_v46, res_main_v41, v31_at, v34_at]
  erw [rowMax_at]
  rw [ninf_eq, bot_sup_eq, hm]
  rfl

end Cert.ReferenceIdeal.Val
-- ==== Proof.RefValue.lean ====
module
public import proofs.«01_k».proof.Proof.RefGate
@[expose] public section
set_option maxRecDepth 16384

/-! # What the reference computes: projections, attention and the output at an index -/

noncomputable section
namespace Cert.ReferenceIdeal.Val
open Idealize.ShloMosaic Idealize.ShloMosaic.TcCoe Idealize.SL.Sem
open Cert.ReferenceIdeal Cert.ReferenceIdeal.Value Cert.ReferenceIdeal.Gen
open Cert.Moe

variable (V0 : Valuation τ sig (Elt Ideal))

/-- The query, key and value projections and the output projections of the experts. -/
abbrev PQ (e : Fin 8) (c : Fin 1024) (d : Fin 64) : EReal := V0 (Proc.devRef .tc main_arg3) (ix3 e c d)
abbrev PK (e : Fin 8) (c : Fin 1024) (d : Fin 64) : EReal := V0 (Proc.devRef .tc main_arg4) (ix3 e c d)
abbrev PV (e : Fin 8) (c : Fin 1024) (d : Fin 64) : EReal := V0 (Proc.devRef .tc main_arg5) (ix3 e c d)
abbrev PO (e : Fin 8) (d : Fin 64) (c : Fin 1024) : EReal := V0 (Proc.devRef .tc main_arg6) (ix3 e d c)

/-- The gate weights, and the query, key and value rows of a token. -/
abbrev Wt (t : Fin 8192) (e : Fin 8) : EReal := weight (X V0 t) (Sim V0) (G V0) e
abbrev Qr (t : Fin 8192) (d : Fin 64) : EReal := proj (Wt V0 t) (PQ V0) (X V0 t) d
abbrev Kr (t : Fin 8192) (d : Fin 64) : EReal := proj (Wt V0 t) (PK V0) (X V0 t) d
abbrev Vr (t : Fin 8192) (d : Fin 64) : EReal := proj (Wt V0 t) (PV V0) (X V0 t) d

/-- The causal scores of position `t` of batch `b`. -/
abbrev Sc (b : Fin 4) (t : Fin 2048) : Fin 2048 → EReal := causal t (Qr V0 (row b t)) (fun s => Kr V0 (row b s))

theorem v62_at (b : Fin 4) (t s : Fin 2048) : res_main_v62 V0 (ix3 b t s) = Sc V0 b t s := by
  have hc : IntOp.cmpi .sge (IntOp.addi (BitVec.ofNat 32 t.val) 0#32) (BitVec.ofNat 32 s.val) = BitVec.ofBool (decide (s.val ≤ t.val)) := by
    rw [show IntOp.addi (BitVec.ofNat 32 t.val) 0#32 = BitVec.ofNat 32 t.val from BitVec.add_zero _,
      WordCmp.cmpi_sge_ofNat (by omega) (by omega)]
  pointwise [res_main_v62, v46_at, v0_at]
  rw [hc]
  unfold Sc causal
  by_cases h : s.val ≤ t.val
  · rw [if_pos h, decide_eq_true h]; rfl
  · rw [if_neg h, decide_eq_false h]; exact ninf_eq

/-- The largest of a row of scores, as the reference takes it. -/
theorem scoreMax_at (x : FVec Ideal S4x2048x2048 .f32) (b : Fin 4) (t : Fin 2048) :
    Host.reduce FloatOps.maximumf x (constant S_ .f32 0xFF800000#32) reducesTo_S4x2048x2048_S4x2048_d2 h_S_ (ix2 b t)
      = (Finset.univ : Finset (Fin 2048)).fold max ⊥ (fun s => x (ix3 b t s)) := by
  refine (Host.reduce_eq_fold (α := EReal) (FloatOps.maximumf (F := Ideal) (φ := .f32)) x (fun _ => Ideal.ofBits .f32 0xFF800000#32)
    reducesTo_S4x2048x2048_S4x2048_d2 h_S_ (ix2 b t)).trans ?_
  rw [ninf_eq]
  exact Shape.ReducesTo.fold_fiber_r3_a2 reducesTo_S4x2048x2048_S4x2048_d2 (ix2 b t) max ⊥ x

/-- The exponentials of a row less its maximum, as the reference spells them. -/
def expOf (x : FVec Ideal S4x2048x2048 .f32) (mx : FVec Ideal S4x2048 .f32) : FVec Ideal S4x2048x2048 .f32 :=
  Host.exp (subf x (broadcastInDim S4x2048x2048 ![0, 1, 2] bcast_S4x2048x1_S4x2048x2048_0_1_2 (broadcastInDim S4x2048x1 ![0, 1] bcast_S4x2048_S4x2048x1_0_1 (maximumf (broadcastInDim S4x2048 ![] bcast_S_S4x2048 (constant S_ .f32 0xFF800000#32)) mx))))

theorem expOf_at (x : FVec Ideal S4x2048x2048 .f32) (mx : FVec Ideal S4x2048 .f32) (b : Fin 4) (t s : Fin 2048) :
    expOf x mx (ix3 b t s) = Ideal.exp (x (ix3 b t s) - mx (ix2 b t)) := by
  pointwise [expOf]
  rw [ninf_eq, bot_sup_eq]

theorem v69_at (b : Fin 4) (t s : Fin 2048) : res_main_v69 V0 (ix3 b t s)
    = Ideal.exp (Sc V0 b t s - (Finset.univ : Finset (Fin 2048)).fold max ⊥ (Sc V0 b t)) := by
  have hm : (fun s => res_main_v62 V0 (ix3 b t s)) = Sc V0 b t := funext fun s => v62_at V0 b t s
  have h := expOf_at (res_main_v62 V0) (Host.reduce FloatOps.maximumf (res_main_v62 V0) (constant S_ .f32 0xFF800000#32) reducesTo_S4x2048x2048_S4x2048_d2 h_S_) b t s
  rw [scoreMax_at, hm, v62_at] at h
  exact h

/-- The attention rows, as the reference spells them, from the exponentials and the values. -/
def attOf (p : FVec Ideal S4x2048x2048 .f32) (v : FVec Ideal S8192x64 .f32) : FVec Ideal S8192x64 .f32 :=
  shapeCast _ (Host.dotGeneral dot_S4x2048x2048_S4x2048x64_S4x2048x64_2_1_1_2_0_0 none (Host.divf p (broadcastInDim S4x2048x2048 ![0, 1, 2] bcast_S4x2048x1_S4x2048x2048_0_1_2 (broadcastInDim S4x2048x1 ![0, 1] bcast_S4x2048_S4x2048x1_0_1 (Host.reduceAdd p (constant S_ .f32 0x00000000#32) reducesTo_S4x2048x2048_S4x2048_d2 h_S_)))) (shapeCast _ v shapeCasts_S8192x64_S4x2048x64)) shapeCasts_S4x2048x64_S8192x64

theorem attOf_at (p : FVec Ideal S4x2048x2048 .f32) (v : FVec Ideal S8192x64 .f32) (b : Fin 4) (t : Fin 2048) (d : Fin 64) :
    attOf p v (ix2 (row b t) d) = ∑ s, Ideal.div (p (ix3 b t s)) (∑ s', p (ix3 b t s')) * v (ix2 (row b s) d) := by
  have h1 : (⟨(row b t).val / 2048, by omega⟩ : Fin 4) = b := Fin.ext (by show (b.val * 2048 + t.val) / 2048 = b.val; omega)
  have h2 : (⟨(row b t).val % 2048, by omega⟩ : Fin 2048) = t := Fin.ext (by show (b.val * 2048 + t.val) % 2048 = t.val; omega)
  pointwise [attOf]
  refine Finset.sum_congr rfl fun s _ => ?_
  rw [h1, h2]
  congr 2
  exact congrArg (fun i => ix2 i d) (Fin.ext (by show (b.val * 2048 + t.val) / 2048 * 2048 + s.val = b.val * 2048 + s.val; omega))

/-- The value rows. -/
def valOf (w : FVec Ideal S8192x8 .f32) (P : FVec Ideal S8x1024x64 .f32) (x : FVec Ideal S8192x1024 .f32) : FVec Ideal S8192x64 .f32 :=
  Host.dotGeneral dot_S8192x8_S8x64x8192_S8192x64_1_0_n_1_0_2 none w (Host.dotGeneral dot_S8x1024x64_S8192x1024_S8x64x8192_1_1_02_0_n_n none P x)

theorem valOf_at (w : FVec Ideal S8192x8 .f32) (P : FVec Ideal S8x1024x64 .f32) (x : FVec Ideal S8192x1024 .f32) (t : Fin 8192) (d : Fin 64) :
    valOf w P x (ix2 t d) = proj (fun e => w (ix2 t e)) (fun e c d => P (ix3 e c d)) (fun c => x (ix2 t c)) d := by
  pointwise [valOf]
  rfl

/-- The output rows. -/
def outOf (w : FVec Ideal S8192x8 .f32) (a : FVec Ideal S8192x64 .f32) (O : FVec Ideal S8x64x1024 .f32) : FVec Ideal S4x2048x1024 .f32 :=
  shapeCast _ (Host.dotGeneral dot_S8192x8x64_S8x64x1024_S8192x1024_21_10_0_2_n_n none (mulf (broadcastInDim S8192x8x64 ![0, 1, 2] bcast_S8192x8x1_S8192x8x64_0_1_2 (broadcastInDim S8192x8x1 ![0, 1] bcast_S8192x8_S8192x8x1_0_1 w)) (broadcastInDim S8192x8x64 ![0, 1, 2] bcast_S8192x1x64_S8192x8x64_0_1_2 (broadcastInDim S8192x1x64 ![0, 2] bcast_S8192x64_S8192x1x64_0_2 a))) O) shapeCasts_S8192x1024_S4x2048x1024

theorem outOf_at (w : FVec Ideal S8192x8 .f32) (a : FVec Ideal S8192x64 .f32) (O : FVec Ideal S8x64x1024 .f32) (b : Fin 4) (t : Fin 2048) (c : Fin 1024) :
    outOf w a O (ix3 b t c) = output (fun e => w (ix2 (row b t) e)) (fun d => a (ix2 (row b t) d)) (fun e d c => O (ix3 e d c)) c := by
  pointwise [outOf]
  exact Finset.sum_comm

/-- The term of the reference's result. -/
def result : FVec Ideal S4x2048x1024 .f32 :=
  outOf (res_main_v46 V0) (attOf (res_main_v69 V0) (valOf (res_main_v46 V0) (V0 (Proc.devRef .tc main_arg5)) (res_main_v0 V0))) (V0 (Proc.devRef .tc main_arg6))

theorem result_at (b : Fin 4) (t : Fin 2048) (c : Fin 1024) :
    result V0 (ix3 b t c) = layer (X V0) (Sim V0) (G V0) (PQ V0) (PK V0) (PV V0) (PO V0) b t c := by
  have hw : ∀ t, (fun e => res_main_v46 V0 (ix2 t e)) = Wt V0 t := fun t => funext fun e => v46_at V0 t e
  have hx : ∀ t, (fun k => res_main_v0 V0 (ix2 t k)) = X V0 t := fun t => funext fun k => v0_at V0 t k
  have hp : ∀ t, (fun s => res_main_v69 V0 (ix3 b t s)) = fun s => Ideal.exp (Sc V0 b t s - (Finset.univ : Finset (Fin 2048)).fold max ⊥ (Sc V0 b t)) := fun t => funext fun s => v69_at V0 b t s
  unfold result
  rw [outOf_at, hw]
  unfold layer
  congr 1
  funext d
  rw [attOf_at]
  unfold attend softAvg
  refine Finset.sum_congr rfl fun s _ => ?_
  rw [valOf_at, hw, hx, v69_at]
  congr 2
  exact Finset.sum_congr rfl fun s' _ => v69_at V0 b t s'

end Cert.ReferenceIdeal.Val
-- ==== Proof.Same.lean ====
/- The two results are one: both hold the layer's value at every entry. -/
module
public import proofs.«01_k».proof.Proof.StageB
public import proofs.«01_k».proof.Proof.RefValue
@[expose] public section
set_option maxRecDepth 16384

noncomputable section
namespace Cert.Moe
open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- Where the memories agree on the arguments, the reference's result is the kernel's result array. -/
theorem same
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3))
    (h4 : m' ((c : Thread ReferenceIdeal.nD ReferenceIdeal.τ).loc ReferenceIdeal.main_arg4) = m ((c : Thread KernelIdeal.nD KernelIdeal.τ).loc KernelIdeal.main_arg4))
    (h5 : m' ((c : Thread ReferenceIdeal.nD ReferenceIdeal.τ).loc ReferenceIdeal.main_arg5) = m ((c : Thread KernelIdeal.nD KernelIdeal.τ).loc KernelIdeal.main_arg5))
    (h6 : m' ((c : Thread ReferenceIdeal.nD ReferenceIdeal.τ).loc ReferenceIdeal.main_arg6) = m ((c : Thread KernelIdeal.nD KernelIdeal.τ).loc KernelIdeal.main_arg6)) :
    ReferenceIdeal.Val.result (StableHlo.launchContents m' c) = KernelIdeal.Val.arrOut m c := by
  funext i
  obtain ⟨b, t, k, rfl⟩ : ∃ (b : Fin 4) (t : Fin 2048) (k : Fin 1024), i = ix3 b t k := ⟨i 0, i 1, i 2, by blk_ext⟩
  refine (ReferenceIdeal.Val.result_at _ b t k).trans ?_
  have e0 : ReferenceIdeal.Val.X (StableHlo.launchContents m' c) = KernelIdeal.Val.aX m c := funext fun t => funext fun k => congrFun h0 _
  have e1 : ReferenceIdeal.Val.Sim (StableHlo.launchContents m' c) = KernelIdeal.Val.aSim m c := funext fun k => funext fun e => congrFun h1 _
  have e2 : ReferenceIdeal.Val.G (StableHlo.launchContents m' c) = KernelIdeal.Val.aG m c := funext fun e => congrFun h2 _
  have e3 : ReferenceIdeal.Val.PQ (StableHlo.launchContents m' c) = KernelIdeal.Val.aQ m c := funext fun e => funext fun k => funext fun d => congrFun h3 _
  have e4 : ReferenceIdeal.Val.PK (StableHlo.launchContents m' c) = KernelIdeal.Val.aK m c := funext fun e => funext fun k => funext fun d => congrFun h4 _
  have e5 : ReferenceIdeal.Val.PV (StableHlo.launchContents m' c) = KernelIdeal.Val.aV m c := funext fun e => funext fun k => funext fun d => congrFun h5 _
  have e6 : ReferenceIdeal.Val.PO (StableHlo.launchContents m' c) = KernelIdeal.Val.aO m c := funext fun e => funext fun d => funext fun k => congrFun h6 _
  rw [e0, e1, e2, e3, e4, e5, e6]
  rfl

end Cert.Moe
-- ==== Proof.Finite.lean ====
/- What the precondition says: the hidden states and the query and key projections are real numbers. -/
module
public import proofs.«01_k».proof.Pre_finite
public import proofs.«01_k».proof.Proof.Reals
public import Idealize.ShloMosaic.Lib.ReduceAll
public import Idealize.ShloMosaic.Lib.Pipeline.ValueKit
@[expose] public section
set_option maxRecDepth 16384

noncomputable section
namespace Cert.Pre_finite.Val
open Idealize.ShloMosaic Idealize.SL.Sem Cert.Pre_finite Cert.Moe

theorem bcast_x : S_.BroadcastsInDim S4x2048x1024 (![] : Fin 0 → Fin S4x2048x1024.rank) := by decide
theorem reduces_x : S4x2048x1024.ReducesTo [0, 1, 2] S_ := by decide
theorem pos_numel : 0 < S_.numel := by decide
theorem bcast_p : S_.BroadcastsInDim S8x1024x64 (![] : Fin 0 → Fin S8x1024x64.rank) := by decide
theorem reduces_p : S8x1024x64.ReducesTo [0, 1, 2] S_ := by decide

/-- The shape relations that the precondition's operations take. -/
instance facts : Cert.Pre_finite.Facts where
  bcast_S_S4x2048x1024 := bcast_x
  reducesTo_S4x2048x1024_S_d0_1_2 := reduces_x
  h_S_ := pos_numel
  bcast_S_S8x1024x64 := bcast_p
  reducesTo_S8x1024x64_S_d0_1_2 := reduces_p

/-- A number whose absolute value is below plus infinity is real. -/
theorem real_of_abs_lt (x : EReal) (h : max x (-x) < ⊤) : IsReal x := by
  refine isReal_of_ne (fun e => ?_) (fun e => ?_) <;> subst e <;> simp at h

theorem real_of_bit (x : EReal)
    (h : FloatOps.cmpf (F := Ideal) (φ := .f32) .olt (FloatOps.absf (F := Ideal) (φ := .f32) x) (FloatOps.ofBits (F := Ideal) .f32 0x7F800000#32) = 1#1) : IsReal x := by
  refine real_of_abs_lt x ?_
  have hi : (FloatOps.ofBits (F := Ideal) .f32 0x7F800000#32 : EReal) = ⊤ := by
    simp [Ideal.ofBits, Ideal.ieee]
  have h : BitVec.ofBool (decide (max x (-x) < (FloatOps.ofBits (F := Ideal) .f32 0x7F800000#32 : EReal))) = 1#1 := h
  rw [hi] at h
  by_contra hn
  rw [decide_eq_false hn] at h
  exact absurd h (by decide)

theorem real_x (x : FVec Ideal S4x2048x1024 .f32) (j : S_.Idx)
    (h : Host.reduce IntOp.andi (cmpf .olt (Host.absf x) (broadcastInDim S4x2048x1024 ![] bcast_x (constant S_ .f32 0x7F800000#32))) (constantI S_ 1 1#1) reduces_x pos_numel j = 1#1)
    (i : S4x2048x1024.Idx) : IsReal (x i) := by
  have e := Host.reduce_andi_all _ _ _ _ j h i
  exact real_of_bit (x i) e

theorem real_p (x : FVec Ideal S8x1024x64 .f32) (j : S_.Idx)
    (h : Host.reduce IntOp.andi (cmpf .olt (Host.absf x) (broadcastInDim S8x1024x64 ![] bcast_p (constant S_ .f32 0x7F800000#32))) (constantI S_ 1 1#1) reduces_p pos_numel j = 1#1)
    (i : S8x1024x64.Idx) : IsReal (x i) := by
  have e := Host.reduce_andi_all _ _ _ _ j h i
  exact real_of_bit (x i) e

/-- The precondition, read: the three arrays it speaks of have real entries. -/
theorem read (x : FVec Ideal S4x2048x1024 .f32) (sim : FVec Ideal S1024x8 .f32) (g : FVec Ideal S8 .f32) (q k v : FVec Ideal S8x1024x64 .f32)
    (o : FVec Ideal S8x64x1024 .f32) (h : fn (F := Ideal) x sim g q k v o = fun _ => 1#1) :
    (∀ i, IsReal (x i)) ∧ (∀ i, IsReal (q i)) ∧ (∀ i, IsReal (k i)) := by
  have h0 := congrFun h ((fun a => a.elim0 : S_.Idx))
  obtain ⟨h1, hk⟩ := IntOp.andi_eq_one.1 h0
  obtain ⟨hx, hq⟩ := IntOp.andi_eq_one.1 h1
  exact ⟨real_x x _ hx, real_p q _ hq, real_p k _ hk⟩

end Cert.Pre_finite.Val
-- ==== Proof.lean ====
/- The claims about the mixture-of-experts attention kernel, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Same
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference terminates without fault and leaves its arguments as they were; it declares no semaphore. -/
theorem frame_reference : Cert.quiescent_ReferenceIdeal := fun m ρ _ =>
  (θ_run Cert.ReferenceIdeal.defs _ _).mono (fun r h => ⟨fun c => (h c).2,
      sem_eq_zero_of_no_sems (by decide) r.2⟩)
    (Cert.ReferenceIdeal.Value.run m ρ)

/-- On real hidden states and real query and key projections the idealized kernel and the reference leave the same result. -/
theorem algebraic : Cert.algebraic_KernelIdeal_ReferenceIdeal_pre_finite := by
  intro m g m' g' hpre hagree
  refine ⟨_, Cert.KernelIdeal.Val.run m g, ?_⟩
  refine (θ_run Cert.ReferenceIdeal.defs _ _).mono (fun _ h c => ⟨(h c).1.trans ?_, (h c).2⟩) (Cert.ReferenceIdeal.Value.run m' g')
  obtain ⟨h0, h1, h2, h3, h4, h5, h6⟩ := hagree c
  obtain ⟨hX, hQ, hK⟩ := Cert.Pre_finite.Val.read _ _ _ _ _ _ _ (hpre c)
  exact (Cert.Moe.same m m' c h0 h1 h2 h3 h4 h5 h6).trans
    (Cert.KernelIdeal.Val.value m g c (fun t k => hX _) (fun e k d => hQ _) (fun e k d => hK _)).symm

theorem claim : Cert.Claim := ⟨Cert.Kernel.Gen.facts, Cert.KernelIdeal.Gen.facts, Cert.ReferenceIdeal.Gen.facts, Cert.Pre_finite.Val.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    ⟨IdealRules.named_const.statement Cert.KernelIdeal.κ "low" .f32 0xFF61B1E6#32 ⊥ rfl,
      IdealRules.named_const.statement Cert.KernelIdeal.κ "mask" .f32 0xF149F2CA#32 ⊥ rfl⟩,
    algebraic⟩

end Cert.Proof

end
